-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x64x64x64 : Shape := ⟨5, ![2, 1, 64, 64, 64]⟩
abbrev S2x16x64x64x64 : Shape := ⟨5, ![2, 16, 64, 64, 64]⟩
abbrev S64x128x3x3 : Shape := ⟨4, ![64, 128, 3, 3]⟩
abbrev S64 : Shape := ⟨1, ![64]⟩
abbrev S2x64x4096 : Shape := ⟨3, ![2, 64, 4096]⟩
abbrev S2x16x64x4096 : Shape := ⟨4, ![2, 16, 64, 4096]⟩
abbrev S64x64x3x3 : Shape := ⟨4, ![64, 64, 3, 3]⟩
abbrev S3x64x3x64 : Shape := ⟨4, ![3, 64, 3, 64]⟩
abbrev S192x192 : Shape := ⟨2, ![192, 192]⟩
abbrev S64x1 : Shape := ⟨2, ![64, 1]⟩
abbrev S2x1x64x4096 : Shape := ⟨4, ![2, 1, 64, 4096]⟩
abbrev S1x64x4096 : Shape := ⟨3, ![1, 64, 4096]⟩
abbrev S1x4x64x4096 : Shape := ⟨4, ![1, 4, 64, 4096]⟩
abbrev S1x1x64x4096 : Shape := ⟨4, ![1, 1, 64, 4096]⟩
abbrev S64x4096 : Shape := ⟨2, ![64, 4096]⟩
abbrev S64x4095 : Shape := ⟨2, ![64, 4095]⟩
abbrev S192x64 : Shape := ⟨2, ![192, 64]⟩
abbrev S192x4096 : Shape := ⟨2, ![192, 4096]⟩
abbrev S64x64 : Shape := ⟨2, ![64, 64]⟩
abbrev S64x4032 : Shape := ⟨2, ![64, 4032]⟩

abbrev nBuf : Space → Nat
  | .hbm => 17
  | .vmem => 12
  | .smem => 0
  | _ => 0

abbrev bufTy : (tb : Table) → Fin (tcTables nBuf tb) → BufTy
  | .hbm, ⟨0, _⟩ => ⟨S2x1x64x64x64, .f32⟩
  | .hbm, ⟨1, _⟩ => ⟨S2x16x64x64x64, .f32⟩
  | .hbm, ⟨2, _⟩ => ⟨S64x128x3x3, .f32⟩
  | .hbm, ⟨3, _⟩ => ⟨S64, .f32⟩
  | .hbm, ⟨4, _⟩ => ⟨S2x64x4096, .f32⟩
  | .hbm, ⟨5, _⟩ => ⟨S2x16x64x4096, .f32⟩
  | .hbm, ⟨6, _⟩ => ⟨S64x64x3x3, .f32⟩
  | .hbm, ⟨7, _⟩ => ⟨S3x64x3x64, .f32⟩
  | .hbm, ⟨8, _⟩ => ⟨S192x192, .f32⟩
  | .hbm, ⟨9, _⟩ => ⟨S192x192, .bf16⟩
  | .hbm, ⟨10, _⟩ => ⟨S64x64x3x3, .f32⟩
  | .hbm, ⟨11, _⟩ => ⟨S3x64x3x64, .f32⟩
  | .hbm, ⟨12, _⟩ => ⟨S192x192, .f32⟩
  | .hbm, ⟨13, _⟩ => ⟨S192x192, .bf16⟩
  | .hbm, ⟨14, _⟩ => ⟨S64x1, .f32⟩
  | .hbm, ⟨15, _⟩ => ⟨S2x1x64x4096, .f32⟩
  | .hbm, ⟨16, _⟩ => ⟨S2x16x64x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x4x64x4096, .f32⟩
  | .local _ .vmem, ⟨3, _⟩ => ⟨S1x4x64x4096, .f32⟩
  | .local _ .vmem, ⟨4, _⟩ => ⟨S192x192, .bf16⟩
  | .local _ .vmem, ⟨5, _⟩ => ⟨S192x192, .bf16⟩
  | .local _ .vmem, ⟨6, _⟩ => ⟨S64x1, .f32⟩
  | .local _ .vmem, ⟨7, _⟩ => ⟨S1x1x64x4096, .f32⟩
  | .local _ .vmem, ⟨8, _⟩ => ⟨S1x1x64x4096, .f32⟩
  | .local _ .vmem, ⟨9, _⟩ => ⟨S1x4x64x4096, .f32⟩
  | .local _ .vmem, ⟨10, _⟩ => ⟨S1x4x64x4096, .f32⟩
  | .local _ .vmem, ⟨11, _⟩ => ⟨S64x4096, .f32⟩
  | _, _ => ⟨S2x1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_82 : BitVec 32 := 0#32
  let v199 : BitVec 1 := Scalar.cmpi .eq arg1 c0_i32_82
  let v200 : BitVec 32 := Scalar.extui v199
  let c0_i32_83 : BitVec 32 := 0#32
  let v201 : BitVec 1 := Scalar.cmpi .ne v200 c0_i32_83
  v201

def k0_cond3 (i : grid0.Coords) : BitVec 1 :=
  let arg1 : BitVec 32 := BitVec.ofNat 32 (i 1).val
  let c0_i32_84 : BitVec 32 := 0#32
  let v202 : BitVec 1 := Scalar.cmpi .ne arg1 c0_i32_84
  let v203 : BitVec 32 := Scalar.extui v202
  let c0_i32_85 : BitVec 32 := 0#32
  let v204 : BitVec 1 := Scalar.cmpi .ne v203 c0_i32_85
  v204

def k0_cond4 (i : grid0.Coords) : BitVec 1 :=
  let arg1 : BitVec 32 := BitVec.ofNat 32 (i 1).val
  let c3_i32 : BitVec 32 := 3#32
  let v205 : BitVec 1 := Scalar.cmpi .eq arg1 c3_i32
  let v206 : BitVec 32 := Scalar.extui v205
  let c0_i32_86 : BitVec 32 := 0#32
  let v207 : BitVec 1 := Scalar.cmpi .ne v206 c0_i32_86
  v207

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x1x64x64x64 : Shape := ⟨5, ![2, 1, 64, 64, 64]⟩
abbrev S2x16x64x64x64 : Shape := ⟨5, ![2, 16, 64, 64, 64]⟩
abbrev S64x128x3x3 : Shape := ⟨4, ![64, 128, 3, 3]⟩
abbrev S64 : Shape := ⟨1, ![64]⟩
abbrev S64x64x3x3 : Shape := ⟨4, ![64, 64, 3, 3]⟩
abbrev S2x64x64x64 : Shape := ⟨4, ![2, 64, 64, 64]⟩
abbrev S_ : Shape := ⟨0, ![]⟩
abbrev S2x64x66x66 : Shape := ⟨4, ![2, 64, 66, 66]⟩
abbrev S2x576x64x64 : Shape := ⟨4, ![2, 576, 64, 64]⟩
abbrev S64x3x3x64 : Shape := ⟨4, ![64, 3, 3, 64]⟩
abbrev S64x576 : Shape := ⟨2, ![64, 576]⟩
abbrev S32x64x64x64 : Shape := ⟨4, ![32, 64, 64, 64]⟩
abbrev S32x64x66x66 : Shape := ⟨4, ![32, 64, 66, 66]⟩
abbrev S32x576x64x64 : Shape := ⟨4, ![32, 576, 64, 64]⟩
abbrev S2x1x1x64x64x64 : Shape := ⟨6, ![2, 1, 1, 64, 64, 64]⟩
abbrev S2x1x16x64x64x64 : Shape := ⟨6, ![2, 1, 16, 64, 64, 64]⟩
abbrev S1x1x1x64x1x1 : Shape := ⟨6, ![1, 1, 1, 64, 1, 1]⟩
abbrev S2x1x64x4096 : Shape := ⟨4, ![2, 1, 64, 4096]⟩
abbrev S2x16x64x4096 : Shape := ⟨4, ![2, 16, 64, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2x1x64x64x64, .f32⟩
  | .hbm, ⟨1, _⟩ => ⟨S2x16x64x64x64, .f32⟩
  | .hbm, ⟨2, _⟩ => ⟨S64x128x3x3, .f32⟩
  | .hbm, ⟨3, _⟩ => ⟨S64, .f32⟩
  | .hbm, ⟨4, _⟩ => ⟨S64x64x3x3, .f32⟩
  | .hbm, ⟨5, _⟩ => ⟨S64x64x3x3, .f32⟩
  | .hbm, ⟨6, _⟩ => ⟨S2x64x64x64, .f32⟩
  | .hbm, ⟨7, _⟩ => ⟨S_, .i32⟩
  | .hbm, ⟨8, _⟩ => ⟨S_, .f32⟩
  | .hbm, ⟨9, _⟩ => ⟨S2x64x66x66, .f32⟩
  | .hbm, ⟨10, _⟩ => ⟨S2x64x64x64, .f32⟩
  | .hbm, ⟨11, _⟩ => ⟨S2x64x64x64, .f32⟩
  | .hbm, ⟨12, _⟩ => ⟨S2x64x64x64, .f32⟩
  | .hbm, ⟨13, _⟩ => ⟨S2x64x64x64, .f32⟩
  | .hbm, ⟨14, _⟩ => ⟨S2x64x64x64, .f32⟩
  | .hbm, ⟨15, _⟩ => ⟨S2x64x64x64, .f32⟩
  | .hbm, ⟨16, _⟩ => ⟨S2x64x64x64, .f32⟩
  | .hbm, ⟨17, _⟩ => ⟨S2x64x64x64, .f32⟩
  | .hbm, ⟨18, _⟩ => ⟨S2x64x64x64, .f32⟩
  | .hbm, ⟨19, _⟩ => ⟨S2x576x64x64, .f32⟩
  | .hbm, ⟨20, _⟩ => ⟨S64x3x3x64, .f32⟩
  | .hbm, ⟨21, _⟩ => ⟨S64x576, .f32⟩
  | .hbm, ⟨22, _⟩ => ⟨S2x64x64x64, .f32⟩
  | .hbm, ⟨23, _⟩ => ⟨S2x64x64x64, .f32⟩
  | .hbm, ⟨24, _⟩ => ⟨S2x1x64x64x64, .f32⟩
  | .hbm, ⟨25, _⟩ => ⟨S32x64x64x64, .f32⟩
  | .hbm, ⟨26, _⟩ => ⟨S_, .i32⟩
  | .hbm, ⟨27, _⟩ => ⟨S_, .f32⟩
  | .hbm, ⟨28, _⟩ => ⟨S32x64x66x66, .f32⟩
  | .hbm, ⟨29, _⟩ => ⟨S32x64x64x64, .f32⟩
  | .hbm, ⟨30, _⟩ => ⟨S32x64x64x64, .f32⟩
  | .hbm, ⟨31, _⟩ => ⟨S32x64x64x64, .f32⟩
  | .hbm, ⟨32, _⟩ => ⟨S32x64x64x64, .f32⟩
  | .hbm, ⟨33, _⟩ => ⟨S32x64x64x64, .f32⟩
  | .hbm, ⟨34, _⟩ => ⟨S32x64x64x64, .f32⟩
  | .hbm, ⟨35, _⟩ => ⟨S32x64x64x64, .f32⟩
  | .hbm, ⟨36, _⟩ => ⟨S32x64x64x64, .f32⟩
  | .hbm, ⟨37, _⟩ => ⟨S32x64x64x64, .f32⟩
  | .hbm, ⟨38, _⟩ => ⟨S32x576x64x64, .f32⟩
  | .hbm, ⟨39, _⟩ => ⟨S64x3x3x64, .f32⟩
  | .hbm, ⟨40, _⟩ => ⟨S64x576, .f32⟩
  | .hbm, ⟨41, _⟩ => ⟨S32x64x64x64, .f32⟩
  | .hbm, ⟨42, _⟩ => ⟨S32x64x64x64, .f32⟩
  | .hbm, ⟨43, _⟩ => ⟨S2x16x64x64x64, .f32⟩
  | .hbm, ⟨44, _⟩ => ⟨S2x1x1x64x64x64, .f32⟩
  | .hbm, ⟨45, _⟩ => ⟨S2x1x16x64x64x64, .f32⟩
  | .hbm, ⟨46, _⟩ => ⟨S2x1x16x64x64x64, .f32⟩
  | .hbm, ⟨47, _⟩ => ⟨S2x1x16x64x64x64, .f32⟩
  | .hbm, ⟨48, _⟩ => ⟨S1x1x1x64x1x1, .f32⟩
  | .hbm, ⟨49, _⟩ => ⟨S2x1x16x64x64x64, .f32⟩
  | .hbm, ⟨50, _⟩ => ⟨S2x1x16x64x64x64, .f32⟩
  | .hbm, ⟨51, _⟩ => ⟨S2x16x64x64x64, .f32⟩
  | .hbm, ⟨52, _⟩ => ⟨S_, .f32⟩
  | .hbm, ⟨53, _⟩ => ⟨S2x64x64x64, .f32⟩
  | .hbm, ⟨54, _⟩ => ⟨S2x1x64x64x64, .f32⟩
  | .hbm, ⟨55, _⟩ => ⟨S_, .f32⟩
  | .hbm, ⟨56, _⟩ => ⟨S2x1x64x64x64, .f32⟩
  | .hbm, ⟨57, _⟩ => ⟨S2x1x64x64x64, .f32⟩
  | .hbm, ⟨58, _⟩ => ⟨S2x1x64x4096, .f32⟩
  | .hbm, ⟨59, _⟩ => ⟨S2x16x64x4096, .f32⟩
  | _, _ => ⟨S2x1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst : Ref sig .tc := ⟨.hbm, 52, rfl⟩
abbrev main_v44 : Ref sig .tc := ⟨.hbm, 53, rfl⟩
abbrev main_v45 : Ref sig .tc := ⟨.hbm, 54, rfl⟩
abbrev main_cst_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.Conv.lean ====
module

public import proofs.«01_k».proof.Proof.Gen.KernelIdeal.Skeleton
public import Idealize.ShloMosaic.Lib.Pointwise

@[expose] public section

/-! The convolution of one image as the kernel spells it, and its value at an index. -/

open Idealize.ShloMosaic Idealize.SL.Sem Cert.KernelIdeal Cert.KernelIdeal.Gen

namespace Cert.ConvProof

set_option maxRecDepth 16384

/-- The image moved one lane to the right, with zero in the first column. -/
noncomputable def fromLeft (x : FVec Ideal S64x4096 .f32) : FVec Ideal S64x4096 .f32 :=
  select k0_pay6
    (concatenate S64x4096 1
      [⟨S64x1, extractStridedSlice S64x1 ![0, 4095] x slices_S64x4096_o0_4095_S64x1⟩,
       ⟨S64x4095, extractStridedSlice S64x4095 ![0, 0] x slices_S64x4096_o0_0_S64x4095⟩]
      concatenates_S64x1_S64x4095_S64x4096_d1)
    (broadcast S64x4096 (Scalar.ofBits .f32 0x00000000#32))

/-- The image moved one lane to the left, with zero in the last column. -/
noncomputable def fromRight (x : FVec Ideal S64x4096 .f32) : FVec Ideal S64x4096 .f32 :=
  select k0_pay7
    (concatenate S64x4096 1
      [⟨S64x4095, extractStridedSlice S64x4095 ![0, 1] x slices_S64x4096_o0_1_S64x4095⟩,
       ⟨S64x1, extractStridedSlice S64x1 ![0, 0] x slices_S64x4096_o0_0_S64x1⟩]
      concatenates_S64x4095_S64x1_S64x4096_d1)
    (broadcast S64x4096 (Scalar.ofBits .f32 0x00000000#32))

/-- One column of taps, all three rows stacked, against an image. -/
noncomputable def colTaps (w : FVec Ideal S192x64 .bf16) (x : FVec Ideal S64x4096 .f32) :
    FVec Ideal S192x4096 .f32 :=
  matmul dot_S192x64_S64x4096_S192x4096_1_0_0_1_n_n none
    (shapeCast S192x64 w shapeCasts_S192x64_S192x64)
    (truncf .bf16 x bitsLt_bf16_f32) (constant S192x4096 .f32 0x00000000#32)

/-- The three columns of taps, added. -/
noncomputable def rowTaps (x : FVec Ideal S64x4096 .f32) (w0 w1 w2 : FVec Ideal S192x64 .bf16) :
    FVec Ideal S192x4096 .f32 :=
  addf (addf (colTaps w0 (fromLeft x)) (colTaps w1 x)) (colTaps w2 (fromRight x))

/-- The upper row of taps, moved down one row of the image. -/
noncomputable def fromAbove (P : FVec Ideal S192x4096 .f32) : FVec Ideal S64x4096 .f32 :=
  let p0 := extractStridedSlice S64x4096 ![0, 0] P slices_S192x4096_o0_0_S64x4096
  select k0_pay8
    (concatenate S64x4096 1
      [⟨S64x64, extractStridedSlice S64x64 ![0, 4032] p0 slices_S64x4096_o0_4032_S64x64⟩,
       ⟨S64x4032, extractStridedSlice S64x4032 ![0, 0] p0 slices_S64x4096_o0_0_S64x4032⟩]
      concatenates_S64x64_S64x4032_S64x4096_d1)
    (broadcast S64x4096 (Scalar.ofBits .f32 0x00000000#32))

/-- The lower row of taps, moved up one row of the image. -/
noncomputable def fromBelow (P : FVec Ideal S192x4096 .f32) : FVec Ideal S64x4096 .f32 :=
  let p2 := extractStridedSlice S64x4096 ![128, 0] P slices_S192x4096_o128_0_S64x4096
  select k0_pay9
    (concatenate S64x4096 1
      [⟨S64x4032, extractStridedSlice S64x4032 ![0, 64] p2 slices_S64x4096_o0_64_S64x4032⟩,
       ⟨S64x64, extractStridedSlice S64x64 ![0, 0] p2 slices_S64x4096_o0_0_S64x64⟩]
      concatenates_S64x4032_S64x64_S64x4096_d1)
    (broadcast S64x4096 (Scalar.ofBits .f32 0x00000000#32))

/-- The convolution of one image. -/
noncomputable def conv (x : FVec Ideal S64x4096 .f32) (w0 w1 w2 : FVec Ideal S192x64 .bf16) :
    FVec Ideal S64x4096 .f32 :=
  addf (addf (extractStridedSlice S64x4096 ![64, 0] (rowTaps x w0 w1 w2)
      slices_S192x4096_o64_0_S64x4096) (fromAbove (rowTaps x w0 w1 w2)))
    (fromBelow (rowTaps x w0 w1 w2))

theorem mask_col0 (c : Fin 64) (p : Fin 4096) :
    (k0_pay6 (ix2 c p) = 1#1) ↔ (p : ℕ) % 64 ≠ 0 := by
  revert p
  pointwise [k0_pay6, k0_pay5]
  decide +kernel

theorem mask_col63 (c : Fin 64) (p : Fin 4096) :
    (k0_pay7 (ix2 c p) = 1#1) ↔ (p : ℕ) % 64 ≠ 63 := by
  revert p
  pointwise [k0_pay7, k0_pay5]
  decide +kernel

theorem mask_row0 (c : Fin 64) (p : Fin 4096) :
    (k0_pay8 (ix2 c p) = 1#1) ↔ 64 ≤ (p : ℕ) := by
  revert p
  pointwise [k0_pay8]
  decide +kernel

theorem mask_row63 (c : Fin 64) (p : Fin 4096) :
    (k0_pay9 (ix2 c p) = 1#1) ↔ (p : ℕ) < 4032 := by
  revert p
  pointwise [k0_pay9]
  decide +kernel

theorem sel_pos {α : Type} {c : BitVec 1} (h : c = 1#1) (a b : α) : Scalar.select c a b = a :=
  if_pos h

theorem sel_neg {α : Type} {c : BitVec 1} (h : ¬ c = 1#1) (a b : α) : Scalar.select c a b = b :=
  if_neg h

/-- The image read with a border of zeros one wide. -/
noncomputable def padAt (x : FVec Ideal S64x4096 .f32) (c : Fin 64) (h w : ℕ) : EReal :=
  if hh : 1 ≤ h ∧ h ≤ 64 ∧ 1 ≤ w ∧ w ≤ 64 then
    x (ix2 c ⟨(h - 1) * 64 + (w - 1), by omega⟩) else 0

/-- One tap: a row of weights against the padded image at one place. -/
noncomputable def tap (x : FVec Ideal S64x4096 .f32) (k : Fin 64 → EReal) (h w : ℕ) : EReal :=
  ∑ c : Fin 64, k c * padAt x c h w

/-- The three taps of one row of the filter. -/
noncomputable def taps3 (x : FVec Ideal S64x4096 .f32) (k0 k1 k2 : Fin 64 → EReal) (h w : ℕ) :
    EReal :=
  tap x k0 h w + tap x k1 h (w + 1) + tap x k2 h (w + 2)

theorem padAt_lane (x : FVec Ideal S64x4096 .f32) (c : Fin 64) (p : Fin 4096) :
    padAt x c (p / 64 + 1) (p % 64 + 1) = x (ix2 c p) := by
  have hp := p.isLt
  rw [padAt, dif_pos (by omega)]
  congr 2
  apply Fin.ext
  show ((p : ℕ) / 64 + 1 - 1) * 64 + ((p : ℕ) % 64 + 1 - 1) = p
  omega

theorem tap_zero (x : FVec Ideal S64x4096 .f32) (k : Fin 64 → EReal) (h w : ℕ)
    (hh : ¬ (1 ≤ h ∧ h ≤ 64)) : tap x k h w = 0 := by
  refine Finset.sum_eq_zero fun c _ => ?_
  rw [padAt, dif_neg (by omega), mul_zero]

theorem taps3_zero (x : FVec Ideal S64x4096 .f32) (k0 k1 k2 : Fin 64 → EReal) (h w : ℕ)
    (hh : ¬ (1 ≤ h ∧ h ≤ 64)) : taps3 x k0 k1 k2 h w = 0 := by
  simp [taps3, tap_zero x _ h _ hh]

theorem fromLeft_apply (x : FVec Ideal S64x4096 .f32) (c : Fin 64) (p : Fin 4096) :
    fromLeft x (ix2 c p) = padAt x c (p / 64 + 1) (p % 64) := by
  have hp := p.isLt
  have hm := mask_col0 c p
  pointwise [fromLeft]
  by_cases h : (p : ℕ) % 64 = 0
  · rw [sel_neg (fun e => hm.1 e h), padAt, dif_neg (by omega)]
  · rw [sel_pos (hm.2 h), padAt]
    have h1 : ¬ (p : ℕ) < 1 := by omega
    rw [dif_neg h1, dif_pos (by omega)]
    congr 2
    apply Fin.ext
    show (p : ℕ) - 1 = ((p : ℕ) / 64 + 1 - 1) * 64 + ((p : ℕ) % 64 - 1)
    omega

theorem fromRight_apply (x : FVec Ideal S64x4096 .f32) (c : Fin 64) (p : Fin 4096) :
    fromRight x (ix2 c p) = padAt x c (p / 64 + 1) (p % 64 + 2) := by
  have hp := p.isLt
  have hm := mask_col63 c p
  pointwise [fromRight]
  by_cases h : (p : ℕ) % 64 = 63
  · rw [sel_neg (fun e => hm.1 e h), padAt, dif_neg (by omega)]
  · rw [sel_pos (hm.2 h), padAt]
    have h1 : (p : ℕ) < 4095 := by omega
    rw [dif_pos h1, dif_pos (by omega)]
    congr 2
    apply Fin.ext
    show _ = ((p : ℕ) / 64 + 1 - 1) * 64 + ((p : ℕ) % 64 + 2 - 1)
    simp only
    omega

theorem colTaps_apply (w : FVec Ideal S192x64 .bf16) (x : FVec Ideal S64x4096 .f32)
    (r : Fin 192) (p : Fin 4096) :
    colTaps w x (ix2 r p) = ∑ c : Fin 64, w (ix2 r c) * x (ix2 c p) := by
  pointwise [colTaps]

theorem rowTaps_apply (x : FVec Ideal S64x4096 .f32) (w0 w1 w2 : FVec Ideal S192x64 .bf16)
    (r : Fin 192) (p : Fin 4096) :
    rowTaps x w0 w1 w2 (ix2 r p) =
      taps3 x (fun c => w0 (ix2 r c)) (fun c => w1 (ix2 r c)) (fun c => w2 (ix2 r c))
        (p / 64 + 1) (p % 64) := by
  show colTaps w0 (fromLeft x) (ix2 r p) + colTaps w1 x (ix2 r p) +
    colTaps w2 (fromRight x) (ix2 r p) = _
  simp only [colTaps_apply, fromLeft_apply, fromRight_apply, taps3, tap, padAt_lane]

theorem fromAbove_apply (P : FVec Ideal S192x4096 .f32) (o : Fin 64) (p : Fin 4096) :
    fromAbove P (ix2 o p) =
      if h : 64 ≤ (p : ℕ) then P (ix2 ⟨o, by omega⟩ ⟨p - 64, by omega⟩) else 0 := by
  have hm := mask_row0 o p
  pointwise [fromAbove]
  by_cases h : 64 ≤ (p : ℕ)
  · rw [sel_pos (hm.2 h), dif_pos h]
    exact dif_neg (by omega)
  · rw [sel_neg (fun e => h (hm.1 e)), dif_neg h]

theorem fromBelow_apply (P : FVec Ideal S192x4096 .f32) (o : Fin 64) (p : Fin 4096) :
    fromBelow P (ix2 o p) =
      if h : (p : ℕ) < 4032 then P (ix2 ⟨128 + o, by omega⟩ ⟨64 + p, by omega⟩) else 0 := by
  have hm := mask_row63 o p
  pointwise [fromBelow]
  by_cases h : (p : ℕ) < 4032
  · rw [sel_pos (hm.2 h)]
    refine (dif_pos h).trans ?_
    rw [dif_pos h]
  · rw [sel_neg (fun e => h (hm.1 e)), dif_neg h]

/-- The convolution at an output channel and a lane: nine taps into the padded image. -/
theorem conv_apply (x : FVec Ideal S64x4096 .f32) (w0 w1 w2 : FVec Ideal S192x64 .bf16)
    (o : Fin 64) (p : Fin 4096) :
    conv x w0 w1 w2 (ix2 o p) =
      taps3 x (fun c => w0 (ix2 ⟨64 + o, by omega⟩ c)) (fun c => w1 (ix2 ⟨64 + o, by omega⟩ c))
          (fun c => w2 (ix2 ⟨64 + o, by omega⟩ c)) (p / 64 + 1) (p % 64) +
        taps3 x (fun c => w0 (ix2 ⟨o, by omega⟩ c)) (fun c => w1 (ix2 ⟨o, by omega⟩ c))
          (fun c => w2 (ix2 ⟨o, by omega⟩ c)) (p / 64) (p % 64) +
        taps3 x (fun c => w0 (ix2 ⟨128 + o, by omega⟩ c))
          (fun c => w1 (ix2 ⟨128 + o, by omega⟩ c))
          (fun c => w2 (ix2 ⟨128 + o, by omega⟩ c)) (p / 64 + 2) (p % 64) := by
  have hp := p.isLt
  have h1 : extractStridedSlice S64x4096 ![64, 0] (rowTaps x w0 w1 w2)
      slices_S192x4096_o64_0_S64x4096 (ix2 o p) = rowTaps x w0 w1 w2 (ix2 ⟨64 + o, by omega⟩ p) := by
    pointwise
  show extractStridedSlice S64x4096 ![64, 0] (rowTaps x w0 w1 w2)
      slices_S192x4096_o64_0_S64x4096 (ix2 o p) + fromAbove (rowTaps x w0 w1 w2) (ix2 o p) +
    fromBelow (rowTaps x w0 w1 w2) (ix2 o p) = _
  rw [h1, fromAbove_apply, fromBelow_apply, rowTaps_apply]
  congr 1
  · congr 1
    split
    · rw [rowTaps_apply]
      congr 1
      · show ((p : ℕ) - 64) / 64 + 1 = _
        omega
      · show ((p : ℕ) - 64) % 64 = _
        omega
    · rw [taps3_zero]
      omega
  · split
    · rw [rowTaps_apply]
      congr 1
      · show (64 + (p : ℕ)) / 64 + 1 = _
        omega
      · show (64 + (p : ℕ)) % 64 = _
        omega
    · rw [taps3_zero]
      omega

end Cert.ConvProof
-- ==== Proof.Step.lean ====
module

public import proofs.«01_k».proof.Proof.Conv
public import proofs.«01_k».proof.Proof.Gen.KernelIdeal.Value
public import Idealize.ShloMosaic.Lib.Pipeline.ReadBack
public import Idealize.ShloMosaic.Lib.Pipeline.ValueKit

@[expose] public section

open Idealize.ShloMosaic Idealize.ShloMosaic.TcCoe Idealize.SL.Sem Cert.KernelIdeal Cert.KernelIdeal.Gen

namespace Cert.ConvProof

set_option maxRecDepth 16384

/-- The three taps of one column, all three rows stacked: 64 columns of the weight matrix. -/
noncomputable def wcol0 (w : Vec Ideal S192x192 .bf16) : Vec Ideal S192x64 .bf16 :=
  View.ld w (Rect.unit ![0, 0] ![192, 64] inb_S192x192_S192x64_0_0)
/-- The second column of taps. -/
noncomputable def wcol1 (w : Vec Ideal S192x192 .bf16) : Vec Ideal S192x64 .bf16 :=
  View.ld w (Rect.unit ![0, 64] ![192, 64] inb_S192x192_S192x64_0_64)
/-- The third column of taps. -/
noncomputable def wcol2 (w : Vec Ideal S192x192 .bf16) : Vec Ideal S192x64 .bf16 :=
  View.ld w (Rect.unit ![0, 128] ![192, 64] inb_S192x192_S192x64_0_128)

/-- The convolution of an image by a packed weight matrix. -/
noncomputable def convW (x : FVec Ideal S64x4096 .f32) (w : Vec Ideal S192x192 .bf16) :
    FVec Ideal S64x4096 .f32 :=
  conv x (wcol0 w) (wcol1 w) (wcol2 w)

/-- The target image's part of the result, with the bias. -/
noncomputable def targetPart (x0 : Vec Ideal S1x64x4096 .f32) (w : Vec Ideal S192x192 .bf16)
    (b : Vec Ideal S64x1 .f32) : FVec Ideal S64x4096 .f32 :=
  k0_pay10 (convW (shapeCast S64x4096 x0 shapeCasts_S1x64x4096_S64x4096) w) b

/-- The first of a step's four support images. -/
noncomputable def img0 (x1 : Vec Ideal S1x4x64x4096 .f32) : FVec Ideal S64x4096 .f32 :=
  shapeCast S64x4096 (View.ld x1 (Rect.unit ![0, 0, 0, 0] ![1, 1, 64, 4096]
    inb_S1x4x64x4096_S1x1x64x4096_0_0_0_0)) shapeCasts_S1x1x64x4096_S64x4096
/-- The second. -/
noncomputable def img1 (x1 : Vec Ideal S1x4x64x4096 .f32) : FVec Ideal S64x4096 .f32 :=
  shapeCast S64x4096 (View.ld x1 (Rect.unit ![0, 1, 0, 0] ![1, 1, 64, 4096]
    inb_S1x4x64x4096_S1x1x64x4096_0_1_0_0)) shapeCasts_S1x1x64x4096_S64x4096
/-- The third. -/
noncomputable def img2 (x1 : Vec Ideal S1x4x64x4096 .f32) : FVec Ideal S64x4096 .f32 :=
  shapeCast S64x4096 (View.ld x1 (Rect.unit ![0, 2, 0, 0] ![1, 1, 64, 4096]
    inb_S1x4x64x4096_S1x1x64x4096_0_2_0_0)) shapeCasts_S1x1x64x4096_S64x4096
/-- The fourth. -/
noncomputable def img3 (x1 : Vec Ideal S1x4x64x4096 .f32) : FVec Ideal S64x4096 .f32 :=
  shapeCast S64x4096 (View.ld x1 (Rect.unit ![0, 3, 0, 0] ![1, 1, 64, 4096]
    inb_S1x4x64x4096_S1x1x64x4096_0_3_0_0)) shapeCasts_S1x1x64x4096_S64x4096

/-- One interaction: a support image's convolution and the target's part. -/
noncomputable def inter (x : FVec Ideal S64x4096 .f32) (w : Vec Ideal S192x192 .bf16)
    (t : FVec Ideal S64x4096 .f32) : FVec Ideal S64x4096 .f32 :=
  addf (convW x w) t

/-- A step's four interactions, added. -/
noncomputable def stepSum (x1 : Vec Ideal S1x4x64x4096 .f32) (w : Vec Ideal S192x192 .bf16)
    (t : FVec Ideal S64x4096 .f32) : FVec Ideal S64x4096 .f32 :=
  addf (addf (addf (inter (img0 x1) w t) (inter (img1 x1) w t)) (inter (img2 x1) w t))
    (inter (img3 x1) w t)

/-- Support image `g` of a step's block. -/
noncomputable def imgAt (x1 : Vec Ideal S1x4x64x4096 .f32) (g : Fin 4) :
    FVec Ideal S64x4096 .f32 := fun q => x1 (ix4 0 g (q 0) (q 1))

/-- A step's four interactions, one after another. -/
noncomputable def stepInter (x1 : Vec Ideal S1x4x64x4096 .f32) (w : Vec Ideal S192x192 .bf16)
    (t : FVec Ideal S64x4096 .f32) : FVec Ideal S1x4x64x4096 .f32 :=
  fun j => inter (imgAt x1 (j 1)) w t (ix2 (j 2) (j 3))

theorem img0_eq (x1 : Vec Ideal S1x4x64x4096 .f32) : img0 x1 = imgAt x1 (0 : Fin 4) := by
  funext j
  pointwise [img0, imgAt]

theorem img1_eq (x1 : Vec Ideal S1x4x64x4096 .f32) : img1 x1 = imgAt x1 (1 : Fin 4) := by
  funext j
  pointwise [img1, imgAt]

theorem img2_eq (x1 : Vec Ideal S1x4x64x4096 .f32) : img2 x1 = imgAt x1 (2 : Fin 4) := by
  funext j
  pointwise [img2, imgAt]

theorem img3_eq (x1 : Vec Ideal S1x4x64x4096 .f32) : img3 x1 = imgAt x1 (3 : Fin 4) := by
  funext j
  pointwise [img3, imgAt]

theorem stored0 (x1 : Vec Ideal S1x4x64x4096 .f32) (w : Vec Ideal S192x192 .bf16)
    (t : FVec Ideal S64x4096 .f32) (x : S1x1x64x4096.Idx) (y : S1x4x64x4096.Idx)
    (h1 : (y 1 : ℕ) = 0) (h2 : (y 2 : ℕ) = x 2) (h3 : (y 3 : ℕ) = x 3) :
    k0_pay1 (inter (img0 x1) w t) x = stepInter x1 w t y := by
  have e1 : y 1 = (0 : Fin 4) := Fin.ext h1
  have e2 : y 2 = x 2 := Fin.ext h2
  have e3 : y 3 = x 3 := Fin.ext h3
  have e : k0_pay1 (inter (img0 x1) w t) x = inter (img0 x1) w t (ix2 (x 2) (x 3)) := by
    pointwise [k0_pay1]
  rw [e, stepInter, e1, e2, e3, img0_eq]

theorem stored1 (x1 : Vec Ideal S1x4x64x4096 .f32) (w : Vec Ideal S192x192 .bf16)
    (t : FVec Ideal S64x4096 .f32) (x : S1x1x64x4096.Idx) (y : S1x4x64x4096.Idx)
    (h1 : (y 1 : ℕ) = 1) (h2 : (y 2 : ℕ) = x 2) (h3 : (y 3 : ℕ) = x 3) :
    k0_pay1 (inter (img1 x1) w t) x = stepInter x1 w t y := by
  have e1 : y 1 = (1 : Fin 4) := Fin.ext h1
  have e2 : y 2 = x 2 := Fin.ext h2
  have e3 : y 3 = x 3 := Fin.ext h3
  have e : k0_pay1 (inter (img1 x1) w t) x = inter (img1 x1) w t (ix2 (x 2) (x 3)) := by
    pointwise [k0_pay1]
  rw [e, stepInter, e1, e2, e3, img1_eq]

theorem stored2 (x1 : Vec Ideal S1x4x64x4096 .f32) (w : Vec Ideal S192x192 .bf16)
    (t : FVec Ideal S64x4096 .f32) (x : S1x1x64x4096.Idx) (y : S1x4x64x4096.Idx)
    (h1 : (y 1 : ℕ) = 2) (h2 : (y 2 : ℕ) = x 2) (h3 : (y 3 : ℕ) = x 3) :
    k0_pay1 (inter (img2 x1) w t) x = stepInter x1 w t y := by
  have e1 : y 1 = (2 : Fin 4) := Fin.ext h1
  have e2 : y 2 = x 2 := Fin.ext h2
  have e3 : y 3 = x 3 := Fin.ext h3
  have e : k0_pay1 (inter (img2 x1) w t) x = inter (img2 x1) w t (ix2 (x 2) (x 3)) := by
    pointwise [k0_pay1]
  rw [e, stepInter, e1, e2, e3, img2_eq]

theorem stored3 (x1 : Vec Ideal S1x4x64x4096 .f32) (w : Vec Ideal S192x192 .bf16)
    (t : FVec Ideal S64x4096 .f32) (x : S1x1x64x4096.Idx) (y : S1x4x64x4096.Idx)
    (h1 : (y 1 : ℕ) = 3) (h2 : (y 2 : ℕ) = x 2) (h3 : (y 3 : ℕ) = x 3) :
    k0_pay1 (inter (img3 x1) w t) x = stepInter x1 w t y := by
  have e1 : y 1 = (3 : Fin 4) := Fin.ext h1
  have e2 : y 2 = x 2 := Fin.ext h2
  have e3 : y 3 = x 3 := Fin.ext h3
  have e : k0_pay1 (inter (img3 x1) w t) x = inter (img3 x1) w t (ix2 (x 2) (x 3)) := by
    pointwise [k0_pay1]
  rw [e, stepInter, e1, e2, e3, img3_eq]

section
variable (c : Dev nD) (i : grid0.Coords)
  (arg2 : Memref sig .tc .vmem S1x64x4096 .f32) (harg2 : arg2.IsWhole)
  (arg3 : Memref sig .tc .vmem S1x4x64x4096 .f32) (harg3 : arg3.IsWhole)
  (arg4 : Memref sig .tc .vmem S192x192 .bf16) (harg4 : arg4.IsWhole)
  (arg5 : Memref sig .tc .vmem S192x192 .bf16) (harg5 : arg5.IsWhole)
  (arg6 : Memref sig .tc .vmem S64x1 .f32) (harg6 : arg6.IsWhole)
  (arg7 : Memref sig .tc .vmem S1x1x64x4096 .f32) (harg7 : arg7.IsWhole)
  (arg8 : Memref sig .tc .vmem S1x4x64x4096 .f32) (harg8 : arg8.IsWhole)
  (arg9 : Memref sig .tc .vmem S64x4096 .f32) (harg9 : arg9.IsWhole)
  (x0 : Vec Ideal S1x64x4096 .f32) (x1 : Vec Ideal S1x4x64x4096 .f32)
  (x2 x3 : Vec Ideal S192x192 .bf16) (x4 : Vec Ideal S64x1 .f32)
  (xo5 : Vec Ideal S1x1x64x4096 .f32) (xs0 : Vec Ideal S64x4096 .f32)

theorem scratch_A (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8
      arg9 harg9 hc0 hc1 hc2 hc3 x0 x1 x2 x3 x4 =
      targetPart x0 x2 x4 := by
  frame_out
  rfl

theorem agg_A (hc0 : cond0_0 i) (hc1 : cond0_1 i) (hc2 : ¬cond0_2 i) (hc3 : ¬cond0_3 i) :
    out0_A_5 c i arg2 harg2 arg3 harg3 arg4 harg4 arg5 harg5 arg6 harg6 arg7 harg7 arg8 harg8
      arg9 harg9 hc0 hc1 hc2 hc3 x0 x1 x2 x3 x4 =
      k0_pay1 (stepSum x1 x3 (targetPart x0 x2 x4)) := by
  frame_out
  rfl

theorem scratch_B (hc0 : ¬cond0_0 i) (hc1 : ¬cond0_1 i) (hc2 : cond0_2 i) (hc3 : ¬cond0_3 i) :
    sout0_B_0 c i arg2 harg2 arg3 harg3 arg4 harg4 arg5 harg5 arg6 harg6 arg7 harg7 arg8 harg8
      arg9 harg9 hc0 hc1 hc2 hc3 x0 x1 x2 x3 x4 xo5 xs0 =
      xs0 := by
  rfl

theorem agg_B (hc0 : ¬cond0_0 i) (hc1 : ¬cond0_1 i) (hc2 : cond0_2 i) (hc3 : ¬cond0_3 i) :
    out0_B_5 c i arg2 harg2 arg3 harg3 arg4 harg4 arg5 harg5 arg6 harg6 arg7 harg7 arg8 harg8
      arg9 harg9 hc0 hc1 hc2 hc3 x0 x1 x2 x3 x4 xo5 xs0 =
      k0_pay2 (stepSum x1 x3 xs0) xo5 := by
  frame_out
  rfl

theorem scratch_C (hc0 : ¬cond0_0 i) (hc1 : ¬cond0_1 i) (hc2 : cond0_2 i) (hc3 : cond0_3 i) :
    sout0_C_0 c i arg2 harg2 arg3 harg3 arg4 harg4 arg5 harg5 arg6 harg6 arg7 harg7 arg8 harg8
      arg9 harg9 hc0 hc1 hc2 hc3 x0 x1 x2 x3 x4 xo5 xs0 =
      xs0 := by
  rfl

theorem agg_C (hc0 : ¬cond0_0 i) (hc1 : ¬cond0_1 i) (hc2 : cond0_2 i) (hc3 : cond0_3 i) :
    out0_C_5 c i arg2 harg2 arg3 harg3 arg4 harg4 arg5 harg5 arg6 harg6 arg7 harg7 arg8 harg8
      arg9 harg9 hc0 hc1 hc2 hc3 x0 x1 x2 x3 x4 xo5 xs0 =
      k0_pay3 (k0_pay2 (stepSum x1 x3 xs0) xo5) := by
  frame_out
  rfl

theorem inter_A (hc0 : cond0_0 i) (hc1 : cond0_1 i) (hc2 : ¬cond0_2 i) (hc3 : ¬cond0_3 i) :
    out0_A_6 c i arg2 harg2 arg3 harg3 arg4 harg4 arg5 harg5 arg6 harg6 arg7 harg7 arg8 harg8
      arg9 harg9 hc0 hc1 hc2 hc3 x0 x1 x2 x3 x4 =
      stepInter x1 x3 (targetPart x0 x2 x4) := by
  funext y
  frame_out
  canon_tiles x h
  · exact stored3 x1 x3 (targetPart x0 x2 x4) x y (by omega) (by omega) (by omega)
  · exact stored2 x1 x3 (targetPart x0 x2 x4) x y (by omega) (by omega) (by omega)
  · exact stored1 x1 x3 (targetPart x0 x2 x4) x y (by omega) (by omega) (by omega)
  · exact stored0 x1 x3 (targetPart x0 x2 x4) x y (by omega) (by omega) (by omega)

theorem inter_B (hc0 : ¬cond0_0 i) (hc1 : ¬cond0_1 i) (hc2 : cond0_2 i) (hc3 : ¬cond0_3 i) :
    out0_B_6 c i arg2 harg2 arg3 harg3 arg4 harg4 arg5 harg5 arg6 harg6 arg7 harg7 arg8 harg8
      arg9 harg9 hc0 hc1 hc2 hc3 x0 x1 x2 x3 x4 xo5 xs0 =
      stepInter x1 x3 xs0 := by
  funext y
  frame_out
  canon_tiles x h
  · exact stored3 x1 x3 xs0 x y (by omega) (by omega) (by omega)
  · exact stored2 x1 x3 xs0 x y (by omega) (by omega) (by omega)
  · exact stored1 x1 x3 xs0 x y (by omega) (by omega) (by omega)
  · exact stored0 x1 x3 xs0 x y (by omega) (by omega) (by omega)

theorem inter_C (hc0 : ¬cond0_0 i) (hc1 : ¬cond0_1 i) (hc2 : cond0_2 i) (hc3 : cond0_3 i) :
    out0_C_6 c i arg2 harg2 arg3 harg3 arg4 harg4 arg5 harg5 arg6 harg6 arg7 harg7 arg8 harg8
      arg9 harg9 hc0 hc1 hc2 hc3 x0 x1 x2 x3 x4 xo5 xs0 =
      stepInter x1 x3 xs0 := by
  funext y
  frame_out
  canon_tiles x h
  · exact stored3 x1 x3 xs0 x y (by omega) (by omega) (by omega)
  · exact stored2 x1 x3 xs0 x y (by omega) (by omega) (by omega)
  · exact stored1 x1 x3 xs0 x y (by omega) (by omega) (by omega)
  · exact stored0 x1 x3 xs0 x y (by omega) (by omega) (by omega)

end

end Cert.ConvProof
-- ==== Proof.Blocks.lean ====
module

public import proofs.«01_k».proof.Proof.Step

@[expose] public section

open Idealize.ShloMosaic Idealize.ShloMosaic.TcCoe Idealize.SL.Sem Cert.KernelIdeal Cert.KernelIdeal.Gen

namespace Cert.ConvProof

set_option maxRecDepth 16384

theorem lane_row (p : Fin 4096) : (p : ℕ) / 64 < 64 := by omega
theorem lane_col (p : Fin 4096) : (p : ℕ) % 64 < 64 := by omega

/-- An image whose rows are laid end to end, from its rows and columns. -/
noncomputable def flat (f : Fin 64 → Fin 64 → Fin 64 → EReal) : FVec Ideal S64x4096 .f32 :=
  fun q => f (q 0) ⟨((q 1 : Fin 4096) : ℕ) / 64, lane_row (q 1)⟩
    ⟨((q 1 : Fin 4096) : ℕ) % 64, lane_col (q 1)⟩

/-- The target image of batch entry `b`, its rows laid end to end. -/
noncomputable def tgtImg (a0 : FVec Ideal S2x1x64x64x64 .f32) (b : Fin 2) :
    FVec Ideal S64x4096 .f32 := flat fun ch h w => a0 (ix5 b 0 ch h w)

/-- Support image `s` of batch entry `b`, its rows laid end to end. -/
noncomputable def supImg (a1 : FVec Ideal S2x16x64x64x64 .f32) (b : Fin 2) (s : Fin 16) :
    FVec Ideal S64x4096 .f32 := flat fun ch h w => a1 (ix5 b s ch h w)

theorem flat_apply (f : Fin 64 → Fin 64 → Fin 64 → EReal) (ch : Fin 64) (p : Fin 4096) :
    flat f (ix2 ch p) = f ch ⟨(p : ℕ) / 64, lane_row p⟩ ⟨(p : ℕ) % 64, lane_col p⟩ := rfl

variable (m : (ℓ : Loc nD τ sig) → Buf (Elt Ideal) ℓ) (c : Dev nD)

theorem idx_in : ∀ t : Fin cfg0.N, win0_0.index t = ![(t : ℕ) / 4, 0, 0] ∧
    win0_1.index t = ![(t : ℕ) / 4, (t : ℕ) % 4, 0, 0] ∧ win0_2.index t = ![0, 0] ∧
    win0_3.index t = ![0, 0] ∧ win0_4.index t = ![0, 0] :=
  (by decide +kernel : ∀ t : Fin grid0.N, _)

theorem batch_lt (t : Fin cfg0.N) : (t : ℕ) / 4 < 2 := by
  have h : (t : ℕ) < 8 := lt_of_lt_of_eq t.isLt N_0
  omega

theorem image_lt (t : Fin cfg0.N) (g : Fin 4) : 4 * ((t : ℕ) % 4) + (g : ℕ) < 16 := by omega

/-- The batch entry a grid point works on. -/
def batchOf (t : Fin cfg0.N) : Fin 2 := ⟨(t : ℕ) / 4, batch_lt t⟩

/-- The support image a grid point's block holds at place `g`. -/
def imageOf (t : Fin cfg0.N) (g : Fin 4) : Fin 16 :=
  ⟨4 * ((t : ℕ) % 4) + g, image_lt t g⟩

theorem v0_eq : V m c main_v0 =
    shapeCast S2x64x4096 (m ((c.tc : Thread nD τ).loc main_arg0) : FVec Ideal S2x1x64x64x64 .f32)
      shapeCasts_S2x1x64x64x64_S2x64x4096 := by
  unfold_abbrev_sides
  after_results
  rfl

theorem v1_eq : V m c main_v1 =
    shapeCast S2x16x64x4096 (m ((c.tc : Thread nD τ).loc main_arg1) : FVec Ideal S2x16x64x64x64 .f32)
      shapeCasts_S2x16x64x64x64_S2x16x64x4096 := by
  unfold_abbrev_sides
  after_results
  rfl

/-- A weight half laid out as the kernel wants it: row `64·kh + o`, column `64·kw + c`. -/
noncomputable def packed (a : FVec Ideal S64x64x3x3 .f32) : FVec Ideal S192x192 .bf16 :=
  truncf .bf16 (shapeCast S192x192 (transpose S3x64x3x64 [2, 0, 3, 1] a
    transposes_S64x64x3x3_S3x64x3x64_2_0_3_1) shapeCasts_S3x64x3x64_S192x192) bitsLt_bf16_f32

theorem v5_eq : V m c main_v5 = packed (extractStridedSlice S64x64x3x3 ![0, 0, 0, 0]
    (m ((c.tc : Thread nD τ).loc main_arg2) : FVec Ideal S64x128x3x3 .f32)
      slices_S64x128x3x3_S64x64x3x3_0_0_0_0) := by
  unfold_abbrev_sides
  after_results
  rfl

theorem v9_eq : V m c main_v9 = packed (extractStridedSlice S64x64x3x3 ![0, 64, 0, 0]
    (m ((c.tc : Thread nD τ).loc main_arg2) : FVec Ideal S64x128x3x3 .f32)
      slices_S64x128x3x3_S64x64x3x3_0_64_0_0) := by
  unfold_abbrev_sides
  after_results
  rfl

theorem v10_eq : V m c main_v10 =
    shapeCast S64x1 (m ((c.tc : Thread nD τ).loc main_arg3) : FVec Ideal S64 .f32)
      shapeCasts_S64_S64x1 := by
  unfold_abbrev_sides
  after_results
  rfl

theorem blk0 (t : Fin cfg0.N) (ch : Fin 64) (p : Fin 4096) :
    iblk m c 0 t (ix3 0 ch p) = V m c main_v0 (ix3 (batchOf t) ch p) := by
  have e := (idx_in t).1
  blk_ext [iblk, e, batchOf]

theorem blk1 (t : Fin cfg0.N) (g : Fin 4) (ch : Fin 64) (p : Fin 4096) :
    iblk m c 1 t (ix4 0 g ch p) = V m c main_v1 (ix4 (batchOf t) (imageOf t g) ch p) := by
  have e := (idx_in t).2.1
  blk_ext [iblk, e, batchOf, imageOf]

theorem blk2 (t : Fin cfg0.N) : iblk m c 2 t = V m c main_v5 := by
  have e := (idx_in t).2.2.1
  funext y
  blk_ext [iblk, e]

theorem blk3 (t : Fin cfg0.N) : iblk m c 3 t = V m c main_v9 := by
  have e := (idx_in t).2.2.2.1
  funext y
  blk_ext [iblk, e]

theorem blk4 (t : Fin cfg0.N) : iblk m c 4 t = V m c main_v10 := by
  have e := (idx_in t).2.2.2.2
  funext y
  blk_ext [iblk, e]

theorem cast_block (x : FVec Ideal S1x64x4096 .f32) (ch : Fin 64) (p : Fin 4096) :
    shapeCast S64x4096 x shapeCasts_S1x64x4096_S64x4096 (ix2 ch p) = x (ix3 0 ch p) := by
  pointwise

theorem cast_tgt (a : FVec Ideal S2x1x64x64x64 .f32) (b : Fin 2) (ch : Fin 64) (p : Fin 4096) :
    shapeCast S2x64x4096 a shapeCasts_S2x1x64x64x64_S2x64x4096 (ix3 b ch p) =
      tgtImg a b (ix2 ch p) := by
  rw [tgtImg, flat_apply]
  pointwise

theorem cast_sup (a : FVec Ideal S2x16x64x64x64 .f32) (b : Fin 2) (s : Fin 16) (ch : Fin 64)
    (p : Fin 4096) :
    shapeCast S2x16x64x4096 a shapeCasts_S2x16x64x64x64_S2x16x64x4096 (ix4 b s ch p) =
      supImg a b s (ix2 ch p) := by
  rw [supImg, flat_apply]
  pointwise

theorem tgt_block (t : Fin cfg0.N) :
    shapeCast S64x4096 (iblk m c 0 t : FVec Ideal S1x64x4096 .f32)
        shapeCasts_S1x64x4096_S64x4096 =
      tgtImg (m ((c.tc : Thread nD τ).loc main_arg0)) (batchOf t) := by
  funext j
  rw [eq_ix2 j]
  refine (cast_block _ _ _).trans ((blk0 m c t _ _).trans ?_)
  rw [v0_eq]
  exact cast_tgt _ _ _ _

theorem sup_block (t : Fin cfg0.N) (g : Fin 4) :
    imgAt (iblk m c 1 t) g =
      supImg (m ((c.tc : Thread nD τ).loc main_arg1)) (batchOf t) (imageOf t g) := by
  funext j
  rw [eq_ix2 j]
  refine (blk1 m c t g _ _).trans ?_
  rw [v1_eq]
  exact cast_sup _ _ _ _ _

theorem wcol_packed (a : FVec Ideal S64x64x3x3 .f32) (kh : Fin 3) (o ch : Fin 64) :
    wcol0 (packed a) (ix2 ⟨64 * kh + o, by omega⟩ ch) = a (ix4 o ch kh 0) ∧
    wcol1 (packed a) (ix2 ⟨64 * kh + o, by omega⟩ ch) = a (ix4 o ch kh 1) ∧
    wcol2 (packed a) (ix2 ⟨64 * kh + o, by omega⟩ ch) = a (ix4 o ch kh 2) := by
  refine ⟨?_, ?_, ?_⟩
  · pointwise [wcol0, packed]
    blk_ext []
  · pointwise [wcol1, packed]
    blk_ext []
  · pointwise [wcol2, packed]
    blk_ext []

theorem half_tgt (a : FVec Ideal S64x128x3x3 .f32) (o ch : Fin 64) (kh kw : Fin 3) :
    extractStridedSlice S64x64x3x3 ![0, 0, 0, 0] a slices_S64x128x3x3_S64x64x3x3_0_0_0_0
      (ix4 o ch kh kw) = a (ix4 o ⟨ch, by omega⟩ kh kw) := by
  pointwise

theorem half_sup (a : FVec Ideal S64x128x3x3 .f32) (o ch : Fin 64) (kh kw : Fin 3) :
    extractStridedSlice S64x64x3x3 ![0, 64, 0, 0] a slices_S64x128x3x3_S64x64x3x3_0_64_0_0
      (ix4 o ch kh kw) = a (ix4 o ⟨64 + ch, by omega⟩ kh kw) := by
  pointwise

end Cert.ConvProof
-- ==== Proof.Points.lean ====
module

public import proofs.«01_k».proof.Proof.Blocks

@[expose] public section

/-! What the two result arrays and the carried target part hold, point by point. -/

open Idealize.ShloMosaic Idealize.ShloMosaic.TcCoe Idealize.SL.Sem Cert.KernelIdeal Cert.KernelIdeal.Gen

namespace Cert.ConvProof

set_option maxRecDepth 16384

variable (m : (ℓ : Loc nD τ sig) → Buf (Elt Ideal) ℓ) (c : Dev nD)

/-- The target image's part of batch entry `b`, with the bias. -/
noncomputable def tgtTerm (b : Fin 2) : FVec Ideal S64x4096 .f32 :=
  k0_pay10 (convW (tgtImg (m ((c.tc : Thread nD τ).loc main_arg0)) b) (V m c main_v5))
    (V m c main_v10)

/-- The interaction of support image `s` with the target of batch entry `b`. -/
noncomputable def interTerm (b : Fin 2) (s : Fin 16) : FVec Ideal S64x4096 .f32 :=
  inter (supImg (m ((c.tc : Thread nD τ).loc main_arg1)) b s) (V m c main_v9) (tgtTerm m c b)

/-- The four interactions of one grid point, added. -/
noncomputable def quad (t : Fin cfg0.N) : FVec Ideal S64x4096 .f32 :=
  addf (addf (addf (interTerm m c (batchOf t) (imageOf t (0 : Fin 4)))
      (interTerm m c (batchOf t) (imageOf t (1 : Fin 4))))
    (interTerm m c (batchOf t) (imageOf t (2 : Fin 4))))
    (interTerm m c (batchOf t) (imageOf t (3 : Fin 4)))

theorem targetPart_block (t : Fin cfg0.N) :
    targetPart (iblk m c 0 t) (iblk m c 2 t) (iblk m c 4 t) = tgtTerm m c (batchOf t) := by
  unfold targetPart tgtTerm
  rw [tgt_block, blk2, blk4]

theorem stepSum_block (t : Fin cfg0.N) :
    stepSum (iblk m c 1 t) (iblk m c 3 t) (tgtTerm m c (batchOf t)) = quad m c t := by
  unfold stepSum quad interTerm
  rw [img0_eq, img1_eq, img2_eq, img3_eq, sup_block, sup_block, sup_block, sup_block, blk3]

theorem stepInter_block (t : Fin cfg0.N) (y : S1x4x64x4096.Idx) :
    stepInter (iblk m c 1 t) (iblk m c 3 t) (tgtTerm m c (batchOf t)) y =
      interTerm m c (batchOf t) (imageOf t (y 1)) (ix2 (y 2) (y 3)) := by
  unfold stepInter interTerm
  rw [← sup_block m c t (y 1), blk3]

/-- After every point the carried scratch is the target part of the point's batch entry. -/
theorem scratch_eq : ∀ (n : ℕ) (hn : n < cfg0.N),
    (outsAt0 m c n hn).2.2 = tgtTerm m c (batchOf ⟨n, hn⟩) := by
  intro n
  induction n with
  | zero =>
    intro hn
    rw [outsAt0_A m c ⟨0, hn⟩ rfl rfl (by show ¬ 1 ≤ 0 % 4; omega) (by show ¬ 0 % 4 = 3; omega)]
    dsimp only
    rw [scratch_A, targetPart_block]
  | succ n ih =>
    intro hn
    have hb : (n + 1) % 4 ≠ 0 → batchOf ⟨n + 1, hn⟩ = batchOf ⟨n, Nat.lt_of_succ_lt hn⟩ := by
      intro h
      apply Fin.ext
      show (n + 1) / 4 = n / 4
      omega
    by_cases h0 : (n + 1) % 4 = 0
    · rw [outsAt0_A m c ⟨n + 1, hn⟩ h0 h0 (by show ¬ 1 ≤ (n + 1) % 4; omega)
        (by show ¬ (n + 1) % 4 = 3; omega)]
      dsimp only
      rw [scratch_A, targetPart_block]
    · by_cases h3 : (n + 1) % 4 = 3
      · rw [outsAt0_C m c ⟨n + 1, hn⟩ h0 h0 (by show 1 ≤ (n + 1) % 4; omega) h3]
        dsimp only
        rw [scratch_C, hb h0]
        exact ih _
      · rw [outsAt0_B m c ⟨n + 1, hn⟩ h0 h0 (by show 1 ≤ (n + 1) % 4; omega) h3]
        dsimp only
        rw [scratch_B, hb h0]
        exact ih _

/-- The scratch a later point of a run reads. -/
theorem scratch_prev (t : Fin cfg0.N) (h0 : ¬ (t : ℕ) % 4 = 0) (h : (t : ℕ) - 1 < cfg0.N) :
    (outsAt0 m c ((t : ℕ) - 1) h).2.2 = tgtTerm m c (batchOf t) := by
  rw [scratch_eq]
  congr 1
  apply Fin.ext
  show ((t : ℕ) - 1) / 4 = (t : ℕ) / 4
  omega

theorem inter_eq (t : Fin cfg0.N) (y : S1x4x64x4096.Idx) :
    (outsAt0 m c t.val t.isLt).2.1 y =
      interTerm m c (batchOf t) (imageOf t (y 1)) (ix2 (y 2) (y 3)) := by
  by_cases h0 : (t : ℕ) % 4 = 0
  · rw [outsAt0_A m c t h0 h0 (by omega) (by omega)]
    dsimp only
    rw [inter_A, targetPart_block, stepInter_block]
  · by_cases h3 : (t : ℕ) % 4 = 3
    · rw [outsAt0_C m c t h0 h0 (by omega) h3]
      dsimp only
      rw [inter_C, scratch_prev m c t h0, stepInter_block]
    · rw [outsAt0_B m c t h0 h0 (by omega) h3]
      dsimp only
      rw [inter_B, scratch_prev m c t h0, stepInter_block]

theorem agg_first (t : Fin cfg0.N) (h0 : (t : ℕ) % 4 = 0) :
    (outsAt0 m c t.val t.isLt).1 = k0_pay1 (quad m c t) := by
  rw [outsAt0_A m c t h0 h0 (by omega) (by omega)]
  dsimp only
  rw [agg_A, targetPart_block, stepSum_block]

theorem agg_mid (t : Fin cfg0.N) (h0 : ¬ (t : ℕ) % 4 = 0) (h3 : ¬ (t : ℕ) % 4 = 3) :
    (outsAt0 m c t.val t.isLt).1 =
      k0_pay2 (quad m c t)
        (outsAt0 m c ((t : ℕ) - 1) (Nat.lt_of_le_of_lt (Nat.sub_le _ _) t.isLt)).1 := by
  rw [outsAt0_B m c t h0 h0 (by omega) h3]
  dsimp only
  rw [agg_B, scratch_prev m c t h0, stepSum_block]

theorem agg_last (t : Fin cfg0.N) (h3 : (t : ℕ) % 4 = 3) :
    (outsAt0 m c t.val t.isLt).1 =
      k0_pay3 (k0_pay2 (quad m c t)
        (outsAt0 m c ((t : ℕ) - 1) (Nat.lt_of_le_of_lt (Nat.sub_le _ _) t.isLt)).1) := by
  have h0 : ¬ (t : ℕ) % 4 = 0 := by omega
  rw [outsAt0_C m c t h0 h0 (by omega) h3]
  dsimp only
  rw [agg_C, scratch_prev m c t h0, stepSum_block]

theorem pay1_apply (s : FVec Ideal S64x4096 .f32) (o : Fin 64) (p : Fin 4096) :
    k0_pay1 s (ix4 0 0 o p) = s (ix2 o p) := by
  pointwise [k0_pay1]

theorem pay2_apply (s : FVec Ideal S64x4096 .f32) (a : FVec Ideal S1x1x64x4096 .f32)
    (o : Fin 64) (p : Fin 4096) :
    k0_pay2 s a (ix4 0 0 o p) = a (ix4 0 0 o p) + s (ix2 o p) := by
  pointwise [k0_pay2]

theorem sixteenth : (Ideal.ofBits .f32 0x3D800000#32 : EReal) = ((1 / 16 : ℝ) : EReal) := by
  simp [Ideal.ofBits, Ideal.ieee, -EReal.coe_mul]
  norm_num

theorem sixteen : (Ideal.ofBits .f32 0x41800000#32 : EReal) = ((16 : ℝ) : EReal) := by
  simp [Ideal.ofBits, Ideal.ieee, -EReal.coe_mul]
  norm_num

theorem pay3_apply (a : FVec Ideal S1x1x64x4096 .f32) (o : Fin 64) (p : Fin 4096) :
    k0_pay3 a (ix4 0 0 o p) = a (ix4 0 0 o p) * ((1 / 16 : ℝ) : EReal) := by
  rw [← sixteenth]
  pointwise [k0_pay3]

theorem sum_sixteen (f : Fin 16 → EReal) :
    ∑ s, f s = f 0 + f 1 + f 2 + f 3 + (f 4 + f 5 + f 6 + f 7) + (f 8 + f 9 + f 10 + f 11) +
      (f 12 + f 13 + f 14 + f 15) := by
  simp only [Fin.sum_univ_succ, Fin.sum_univ_zero, add_zero, ← add_assoc]
  rfl

theorem quad_apply (t : Fin cfg0.N) (o : Fin 64) (p : Fin 4096) :
    quad m c t (ix2 o p) =
      interTerm m c (batchOf t) (imageOf t (0 : Fin 4)) (ix2 o p) +
        interTerm m c (batchOf t) (imageOf t (1 : Fin 4)) (ix2 o p) +
        interTerm m c (batchOf t) (imageOf t (2 : Fin 4)) (ix2 o p) +
        interTerm m c (batchOf t) (imageOf t (3 : Fin 4)) (ix2 o p) := rfl

/-- The point of batch entry `b` at step `k`. -/
def point (b : Fin 2) (k : Fin 4) : Fin cfg0.N :=
  ⟨4 * b + k, lt_of_lt_of_eq (b := 8) (by omega) N_0.symm⟩

theorem quad_point (b : Fin 2) (k : Fin 4) (o : Fin 64) (p : Fin 4096) :
    quad m c (point b k) (ix2 o p) =
      interTerm m c b ⟨4 * k + 0, by omega⟩ (ix2 o p) +
        interTerm m c b ⟨4 * k + 1, by omega⟩ (ix2 o p) +
        interTerm m c b ⟨4 * k + 2, by omega⟩ (ix2 o p) +
        interTerm m c b ⟨4 * k + 3, by omega⟩ (ix2 o p) := by
  have hb : batchOf (point b k) = b := Fin.ext (by
    show (4 * (b : ℕ) + (k : ℕ)) / 4 = b
    omega)
  have hi : ∀ g : Fin 4, imageOf (point b k) g = ⟨4 * k + g, by omega⟩ := fun g => Fin.ext (by
    show 4 * ((4 * (b : ℕ) + (k : ℕ)) % 4) + (g : ℕ) = 4 * k + g
    omega)
  rw [quad_apply, hb, hi, hi, hi, hi]
  rfl

/-- The last point of a run leaves the mean of the sixteen interactions. -/
theorem agg_eq (b : Fin 2) (h : 4 * (b : ℕ) + 3 < cfg0.N) (o : Fin 64) (p : Fin 4096) :
    (outsAt0 m c (4 * b + 3) h).1 (ix4 0 0 o p) =
      (∑ s : Fin 16, interTerm m c b s (ix2 o p)) * ((1 / 16 : ℝ) : EReal) := by
  have e3 := agg_last m c (point b 3) (by show (4 * (b : ℕ) + 3) % 4 = 3; omega)
  have e2 := agg_mid m c (point b 2) (by show ¬ (4 * (b : ℕ) + 2) % 4 = 0; omega)
    (by show ¬ (4 * (b : ℕ) + 2) % 4 = 3; omega)
  have e1 := agg_mid m c (point b 1) (by show ¬ (4 * (b : ℕ) + 1) % 4 = 0; omega)
    (by show ¬ (4 * (b : ℕ) + 1) % 4 = 3; omega)
  have e0 := agg_first m c (point b 0) (by show (4 * (b : ℕ) + 0) % 4 = 0; omega)
  have f3 : (outsAt0 m c (4 * b + 3) h).1 = _ := e3
  have f2 : (outsAt0 m c ((point b 3 : ℕ) - 1) (Nat.lt_of_le_of_lt (Nat.sub_le _ _) (point b 3).isLt)).1 = _ := e2
  have f1 : (outsAt0 m c ((point b 2 : ℕ) - 1) (Nat.lt_of_le_of_lt (Nat.sub_le _ _) (point b 2).isLt)).1 = _ := e1
  have f0 : (outsAt0 m c ((point b 1 : ℕ) - 1) (Nat.lt_of_le_of_lt (Nat.sub_le _ _) (point b 1).isLt)).1 = _ := e0
  rw [f3, f2, f1, f0, pay3_apply, pay2_apply, pay2_apply, pay2_apply, pay1_apply, quad_point,
    quad_point, quad_point, quad_point, sum_sixteen]
  rfl

end Cert.ConvProof
-- ==== Proof.KernelValue.lean ====
module

public import proofs.«01_k».proof.Proof.Points

@[expose] public section

/-! The two result arrays of the kernel as functions of the arguments. -/

open Idealize.ShloMosaic Idealize.ShloMosaic.TcCoe Idealize.SL.Sem Cert.KernelIdeal Cert.KernelIdeal.Gen

namespace Cert.ConvProof

set_option maxRecDepth 16384

/-- The convolution of one image by one half of the weights, at one output channel, row and
column: nine taps into the zero-padded image. -/
noncomputable def convAt (x : FVec Ideal S64x4096 .f32) (a : FVec Ideal S64x64x3x3 .f32)
    (o : Fin 64) (h w : ℕ) : EReal :=
  taps3 x (fun ch => a (ix4 o ch 1 0)) (fun ch => a (ix4 o ch 1 1)) (fun ch => a (ix4 o ch 1 2))
      (h + 1) w +
    taps3 x (fun ch => a (ix4 o ch 0 0)) (fun ch => a (ix4 o ch 0 1)) (fun ch => a (ix4 o ch 0 2))
      h w +
    taps3 x (fun ch => a (ix4 o ch 2 0)) (fun ch => a (ix4 o ch 2 1)) (fun ch => a (ix4 o ch 2 2))
      (h + 2) w

theorem taps3_congr (x : FVec Ideal S64x4096 .f32) {f0 f1 f2 g0 g1 g2 : Fin 64 → EReal}
    (h0 : ∀ ch, f0 ch = g0 ch) (h1 : ∀ ch, f1 ch = g1 ch) (h2 : ∀ ch, f2 ch = g2 ch) (h w : ℕ) :
    taps3 x f0 f1 f2 h w = taps3 x g0 g1 g2 h w := by
  rw [funext h0, funext h1, funext h2]

theorem convW_packed (x : FVec Ideal S64x4096 .f32) (a : FVec Ideal S64x64x3x3 .f32)
    (o : Fin 64) (p : Fin 4096) :
    convW x (packed a) (ix2 o p) = convAt x a o ((p : ℕ) / 64) ((p : ℕ) % 64) := by
  rw [convW, conv_apply, convAt]
  refine congrArg₂ _ (congrArg₂ _ ?_ ?_) ?_
  · exact taps3_congr x (fun ch => (wcol_packed a 1 o ch).1) (fun ch => (wcol_packed a 1 o ch).2.1)
      (fun ch => (wcol_packed a 1 o ch).2.2) _ _
  · rw [← taps3_congr x (fun ch => (wcol_packed a 0 o ch).1)
      (fun ch => (wcol_packed a 0 o ch).2.1) (fun ch => (wcol_packed a 0 o ch).2.2)]
    have r0 : (⟨64 * ((0 : Fin 3) : ℕ) + o, by omega⟩ : Fin 192) = ⟨(o : ℕ), by omega⟩ :=
      Fin.ext (by simp)
    rw [r0]
  · exact taps3_congr x (fun ch => (wcol_packed a 2 o ch).1) (fun ch => (wcol_packed a 2 o ch).2.1)
      (fun ch => (wcol_packed a 2 o ch).2.2) _ _

/-- The target's half of the weights. -/
noncomputable def wTgt (a : FVec Ideal S64x128x3x3 .f32) : FVec Ideal S64x64x3x3 .f32 :=
  extractStridedSlice S64x64x3x3 ![0, 0, 0, 0] a slices_S64x128x3x3_S64x64x3x3_0_0_0_0

/-- The support's half of the weights. -/
noncomputable def wSup (a : FVec Ideal S64x128x3x3 .f32) : FVec Ideal S64x64x3x3 .f32 :=
  extractStridedSlice S64x64x3x3 ![0, 64, 0, 0] a slices_S64x128x3x3_S64x64x3x3_0_64_0_0

/-- One interaction at an output channel and a lane. -/
noncomputable def interAt (a0 : FVec Ideal S2x1x64x64x64 .f32) (a1 : FVec Ideal S2x16x64x64x64 .f32)
    (a2 : FVec Ideal S64x128x3x3 .f32) (a3 : FVec Ideal S64 .f32) (b : Fin 2) (s : Fin 16)
    (o : Fin 64) (p : Fin 4096) : EReal :=
  convAt (supImg a1 b s) (wSup a2) o ((p : ℕ) / 64) ((p : ℕ) % 64) +
    (convAt (tgtImg a0 b) (wTgt a2) o ((p : ℕ) / 64) ((p : ℕ) % 64) + a3 (ix1 o))

variable (m : (ℓ : Loc nD τ sig) → Buf (Elt Ideal) ℓ) (c : Dev nD)

theorem pay10_apply (x : FVec Ideal S64x4096 .f32) (b : FVec Ideal S64x1 .f32) (o : Fin 64)
    (p : Fin 4096) : k0_pay10 x b (ix2 o p) = x (ix2 o p) + b (ix2 o 0) := by
  pointwise [k0_pay10]

theorem cast_bias (a : FVec Ideal S64 .f32) (o : Fin 64) :
    shapeCast S64x1 a shapeCasts_S64_S64x1 (ix2 o 0) = a (ix1 o) := by
  pointwise

theorem interTerm_apply (b : Fin 2) (s : Fin 16) (o : Fin 64) (p : Fin 4096) :
    interTerm m c b s (ix2 o p) =
      interAt (m ((c.tc : Thread nD τ).loc main_arg0)) (m ((c.tc : Thread nD τ).loc main_arg1))
        (m ((c.tc : Thread nD τ).loc main_arg2)) (m ((c.tc : Thread nD τ).loc main_arg3))
        b s o p := by
  show convW _ (V m c main_v9) (ix2 o p) + tgtTerm m c b (ix2 o p) = _
  rw [tgtTerm, pay10_apply, v9_eq, v5_eq, v10_eq, convW_packed, convW_packed, cast_bias]
  rfl

theorem outs_congr {n n' : ℕ} (e : n = n') (h : n < cfg0.N) (h' : n' < cfg0.N) :
    outsAt0 m c n h = outsAt0 m c n' h' := by
  subst e; rfl

/-- The second result: every interaction. -/
theorem G6_apply (b : Fin 2) (s : Fin 16) (o : Fin 64) (p : Fin 4096) :
    Cert.KernelIdeal.Value.G6 m c (ix4 b s o p) =
      interAt (m ((c.tc : Thread nD τ).loc main_arg0)) (m ((c.tc : Thread nD τ).loc main_arg1))
        (m ((c.tc : Thread nD τ).loc main_arg2)) (m ((c.tc : Thread nD τ).loc main_arg3))
        b s o p := by
  have hN : cfg0.N = 8 := rfl
  have hpt : Cert.KernelIdeal.Value.pt6Of (ix4 b s o p) = 4 * (b : ℕ) + (s : ℕ) / 4 := by
    show 4 * (((b : Fin 2) : ℕ) / 1 - 0) + 1 * ((s : ℕ) / 4 - 0) + 1 * ((o : ℕ) / 64 - 0) +
      1 * ((p : ℕ) / 4096 - 0) = _
    omega
  have hlt : 4 * (b : ℕ) + (s : ℕ) / 4 < cfg0.N := by rw [hN]; omega
  have hg : (s : ℕ) % 4 < 4 := Nat.mod_lt _ (by norm_num)
  have hloc : Cert.KernelIdeal.Value.loc6Of (ix4 b s o p) = ix4 0 ⟨(s : ℕ) % 4, hg⟩ o p := by
    funext a
    fin_cases a
    · exact Fin.ext (Nat.mod_one _)
    · rfl
    · exact Fin.ext (Nat.mod_eq_of_lt o.isLt)
    · exact Fin.ext (Nat.mod_eq_of_lt p.isLt)
  have key := inter_eq m c ⟨4 * (b : ℕ) + (s : ℕ) / 4, hlt⟩ (ix4 0 ⟨(s : ℕ) % 4, hg⟩ o p)
  have hb : batchOf ⟨4 * (b : ℕ) + (s : ℕ) / 4, hlt⟩ = b :=
    Fin.ext (by show (4 * (b : ℕ) + (s : ℕ) / 4) / 4 = _; omega)
  have hs : imageOf ⟨4 * (b : ℕ) + (s : ℕ) / 4, hlt⟩ ⟨(s : ℕ) % 4, hg⟩ = s :=
    Fin.ext (by show 4 * ((4 * (b : ℕ) + (s : ℕ) / 4) % 4) + (s : ℕ) % 4 = _; omega)
  have hlt' : Cert.KernelIdeal.Value.pt6Of (ix4 b s o p) < cfg0.N := lt_of_eq_of_lt hpt hlt
  rw [Cert.KernelIdeal.Value.G6, dif_pos hlt', ← Cert.KernelIdeal.Value.outsAt0_sweep m c _ hlt',
    hloc, outs_congr m c hpt hlt' hlt]
  refine key.trans ?_
  show interTerm m c (batchOf _) (imageOf _ ⟨(s : ℕ) % 4, hg⟩) (ix2 o p) = _
  rw [hb, hs]
  exact interTerm_apply m c b s o p

/-- The first result: the mean of the interactions. -/
theorem G5_apply (b : Fin 2) (o : Fin 64) (p : Fin 4096) :
    Cert.KernelIdeal.Value.G5 m c (ix4 b 0 o p) =
      (∑ s : Fin 16, interAt (m ((c.tc : Thread nD τ).loc main_arg0))
        (m ((c.tc : Thread nD τ).loc main_arg1)) (m ((c.tc : Thread nD τ).loc main_arg2))
        (m ((c.tc : Thread nD τ).loc main_arg3)) b s o p) * ((1 / 16 : ℝ) : EReal) := by
  have hpt : Cert.KernelIdeal.Value.pt5Of (ix4 b 0 o p) = 4 * (b : ℕ) + 3 := by
    show 4 * (1 * ((b : ℕ) / 1 - 0) + 1 * (0 / 1 - 0) + 1 * ((o : ℕ) / 64 - 0) +
      1 * ((p : ℕ) / 4096 - 0)) + 3 = _
    omega
  have hN : cfg0.N = 8 := rfl
  have hlt : 4 * (b : ℕ) + 3 < cfg0.N := by rw [hN]; omega
  have hloc : Cert.KernelIdeal.Value.loc5Of (ix4 b 0 o p) = ix4 0 0 o p := by
    funext a
    fin_cases a
    · exact Fin.ext (Nat.mod_one _)
    · rfl
    · exact Fin.ext (Nat.mod_eq_of_lt o.isLt)
    · exact Fin.ext (Nat.mod_eq_of_lt p.isLt)
  have hlt' : Cert.KernelIdeal.Value.pt5Of (ix4 b 0 o p) < cfg0.N := lt_of_eq_of_lt hpt hlt
  rw [Cert.KernelIdeal.Value.G5, dif_pos hlt', ← Cert.KernelIdeal.Value.outsAt0_sweep m c _ hlt',
    hloc, outs_congr m c hpt hlt' hlt, agg_eq]
  exact congrArg (· * _) (Finset.sum_congr rfl fun s _ => interTerm_apply m c b s o p)

end Cert.ConvProof
-- ==== Proof.Taps.lean ====
module

public import proofs.«01_k».proof.Proof.KernelValue
public import proofs.«01_k».proof.Proof.Gen.ReferenceIdeal.Read

@[expose] public section

/-! A sum over 576 taps-and-channels, cut into three rows of three taps of 64 channels. -/

open Idealize.ShloMosaic Cert.ReferenceIdeal Cert.ReferenceIdeal.Gen

namespace Cert.ConvProof

set_option maxRecDepth 16384

theorem tapChan_lt (i j : Fin 3) (ch : Fin 64) : 64 * (3 * (i : ℕ) + j) + ch < 576 := by omega

/-- The place of channel `ch` of tap `(i, j)` among the 576. -/
def tapChan (i j : Fin 3) (ch : Fin 64) : Fin 576 :=
  ⟨64 * (3 * (i : ℕ) + j) + ch, tapChan_lt i j ch⟩

theorem tap9_lt (i j : Fin 3) : 3 * (i : ℕ) + j < 9 := by omega

theorem batchPart_lt (n : Fin 32) : (n : ℕ) / 16 < 2 := by omega

theorem imagePart_lt (n : Fin 32) : (n : ℕ) % 16 < 16 := by omega

/-- The batch entry of a support image numbered over both entries. -/
def batchPart (n : Fin 32) : Fin 2 := ⟨(n : ℕ) / 16, batchPart_lt n⟩

/-- The place within its batch entry of such an image. -/
def imagePart (n : Fin 32) : Fin 16 := ⟨(n : ℕ) % 16, imagePart_lt n⟩

theorem sum_tapChan (f : Fin 576 → EReal) :
    ∑ k, f k = ∑ i : Fin 3, ∑ j : Fin 3, ∑ ch : Fin 64, f (tapChan i j ch) := by
  have e1 := Equiv.sum_comp (finProdFinEquiv (m := 9) (n := 64)) (fun k : Fin (9 * 64) => f k)
  have e2 := Equiv.sum_comp (finProdFinEquiv (m := 3) (n := 3))
    (fun t : Fin (3 * 3) => ∑ ch : Fin 64, f (finProdFinEquiv (m := 9) (n := 64) (t, ch)))
  rw [Fintype.sum_prod_type] at e1 e2
  refine e1.symm.trans (e2.symm.trans ?_)
  refine Finset.sum_congr rfl fun i _ => Finset.sum_congr rfl fun j _ =>
    Finset.sum_congr rfl fun ch _ => congrArg f (Fin.ext ?_)
  show (ch : ℕ) + 64 * ((j : ℕ) + 3 * (i : ℕ)) = 64 * (3 * (i : ℕ) + j) + ch
  omega

/-- The zero-padded image of a grid of rows and columns. -/
theorem padAt_flat (f : Fin 64 → Fin 64 → Fin 64 → EReal) (ch : Fin 64) (h w : ℕ) :
    padAt (flat f) ch h w =
      if g : (1 ≤ h ∧ h - 1 < 64) ∧ 1 ≤ w ∧ w - 1 < 64 then f ch ⟨h - 1, g.1.2⟩ ⟨w - 1, g.2.2⟩
      else 0 := by
  unfold padAt
  by_cases hin : 1 ≤ h ∧ h ≤ 64 ∧ 1 ≤ w ∧ w ≤ 64
  · have g : (1 ≤ h ∧ h - 1 < 64) ∧ 1 ≤ w ∧ w - 1 < 64 := by omega
    rw [dif_pos hin, dif_pos g, flat_apply]
    exact congrArg₂ (f ch) (Fin.ext (by show ((h - 1) * 64 + (w - 1)) / 64 = h - 1; omega))
      (Fin.ext (by show ((h - 1) * 64 + (w - 1)) % 64 = w - 1; omega))
  · have g : ¬((1 ≤ h ∧ h - 1 < 64) ∧ 1 ≤ w ∧ w - 1 < 64) := by omega
    rw [dif_neg hin, dif_neg g]

/-- The weights laid out tap by tap, read at a tap and a channel. -/
theorem weight_layout (y : FVec Ideal S64x64x3x3 .f32) (o : Fin 64) (i j : Fin 3) (ch : Fin 64) :
    shapeCast S64x576 (transpose S64x3x3x64 [0, 2, 3, 1] y
      transposes_S64x64x3x3_S64x3x3x64_0_2_3_1) shapeCasts_S64x3x3x64_S64x576
      (ix2 o (tapChan i j ch)) = y (ix4 o ch i j) := by
  have hi := i.isLt
  have hj := j.isLt
  have hc := ch.isLt
  have ho := o.isLt
  pointwise
  refine congrArg y ?_
  funext k
  fin_cases k <;> refine Fin.ext ?_
  · rfl
  · show (64 * (3 * (i : ℕ) + j) + ch) % 64 = ch
    omega
  · show (64 * (3 * (i : ℕ) + j) + ch) / 192 = i
    omega
  · show (64 * (3 * (i : ℕ) + j) + ch) / 64 % 3 = j
    omega

/-- Image times weight, summed over the nine taps and the channels, is the convolution. -/
theorem convAt_eq_sum (x : FVec Ideal Cert.KernelIdeal.S64x4096 .f32) (a : FVec Ideal S64x64x3x3 .f32) (o : Fin 64)
    (h w : ℕ) :
    ∑ i : Fin 3, ∑ j : Fin 3, ∑ ch : Fin 64,
      padAt x ch (h + (i : ℕ)) (w + (j : ℕ)) * a (ix4 o ch i j) = convAt x a o h w := by
  have e : ∀ i j : Fin 3, ∑ ch : Fin 64, padAt x ch (h + (i : ℕ)) (w + (j : ℕ)) * a (ix4 o ch i j) =
      tap x (fun ch => a (ix4 o ch i j)) (h + (i : ℕ)) (w + (j : ℕ)) := fun i j =>
    Finset.sum_congr rfl fun ch _ => mul_comm _ _
  simp only [e, Fin.sum_univ_three]
  show _ = (tap _ _ _ _ + tap _ _ _ _ + tap _ _ _ _) + (tap _ _ _ _ + tap _ _ _ _ + tap _ _ _ _) +
    (tap _ _ _ _ + tap _ _ _ _ + tap _ _ _ _)
  exact congrArg (· + _) (add_comm _ _)

end Cert.ConvProof
-- ==== Proof.RefTarget.lean ====
module

public import proofs.«01_k».proof.Proof.Taps
public import proofs.«01_k».proof.Proof.Gen.ReferenceIdeal.Read

@[expose] public section

/-! The reference's convolution of the target at one index. -/

open Idealize.ShloMosaic Idealize.ShloMosaic.TcCoe Cert.ReferenceIdeal Cert.ReferenceIdeal.Gen
open Cert.ReferenceIdeal.Read

namespace Cert.ConvProof

set_option maxRecDepth 16384

variable (x : FVec Ideal S2x1x64x64x64 .f32) (a : FVec Ideal S64x128x3x3 .f32)

theorem refTgt_image (n : Fin 2) (ch h w : Fin 64) :
    val_main_v2 (F := Ideal) x (ix4 n ch h w) = x (ix5 n 0 ch h w) := by
  pointwise [val_main_v2]

theorem refTgt_zero (i : S_.Idx) : val_main_call0_v0 (F := Ideal) i = (0 : EReal) := by
  show (((0#32 : BitVec 32).toInt : ℝ) : EReal) = 0
  simp

theorem refTgt_padded (n : Fin 2) (ch : Fin 64) (h w : Fin 66) :
    val_main_v3 (F := Ideal) x (ix4 n ch h w) = padAt (tgtImg x n) ch h w := by
  pointwise [val_main_v3]
  refine Eq.trans ?_ (padAt_flat _ ch h w).symm
  simp only [refTgt_image, refTgt_zero]

theorem refTgt_weight (o : Fin 64) (i j : Fin 3) (ch : Fin 64) :
    val_main_v15 (F := Ideal) a (ix2 o (tapChan i j ch)) = wTgt a (ix4 o ch i j) :=
  weight_layout _ o i j ch

/-- The nine shifted images. -/
noncomputable def refTgtShifted : Fin 9 → (S2x64x64x64.Idx → EReal) :=
  ![val_main_v4 (F := Ideal) x, val_main_v5 (F := Ideal) x, val_main_v6 (F := Ideal) x, val_main_v7 (F := Ideal) x, val_main_v8 (F := Ideal) x, val_main_v9 (F := Ideal) x, val_main_v10 (F := Ideal) x, val_main_v11 (F := Ideal) x, val_main_v12 (F := Ideal) x]

theorem refTgt_shifted (n : Fin 2) (ch h w : Fin 64) (i j : Fin 3) :
    refTgtShifted x ⟨3 * (i : ℕ) + j, tap9_lt i j⟩ (ix4 n ch h w) =
      padAt (tgtImg x n) ch ((h : ℕ) + (i : ℕ)) ((w : ℕ) + (j : ℕ)) := by
  have q : ∀ k : S2x64x66x66.Idx, (k 0).val = n → (k 1).val = ch →
      (k 2).val = (i : ℕ) + (h : ℕ) → (k 3).val = (j : ℕ) + (w : ℕ) →
      val_main_v3 (F := Ideal) x k =
        padAt (tgtImg x n) ch ((h : ℕ) + (i : ℕ)) ((w : ℕ) + (j : ℕ)) := by
    intro k e0 e1 e2 e3
    obtain rfl : k 0 = n := Fin.ext e0
    obtain rfl : k 1 = ch := Fin.ext e1
    rw [eq_ix4 k, Nat.add_comm (h : ℕ), Nat.add_comm (w : ℕ), ← e2, ← e3]
    exact refTgt_padded x _ _ _ _
  fin_cases i <;> fin_cases j
  · exact (val_main_v4_apply (F := Ideal) x (ix4 n ch h w)).trans (q _ rfl rfl (Nat.zero_add _).symm (Nat.zero_add _).symm)
  · exact (val_main_v5_apply (F := Ideal) x (ix4 n ch h w)).trans (q _ rfl rfl (Nat.zero_add _).symm rfl)
  · exact (val_main_v6_apply (F := Ideal) x (ix4 n ch h w)).trans (q _ rfl rfl (Nat.zero_add _).symm rfl)
  · exact (val_main_v7_apply (F := Ideal) x (ix4 n ch h w)).trans (q _ rfl rfl rfl (Nat.zero_add _).symm)
  · exact (val_main_v8_apply (F := Ideal) x (ix4 n ch h w)).trans (q _ rfl rfl rfl rfl)
  · exact (val_main_v9_apply (F := Ideal) x (ix4 n ch h w)).trans (q _ rfl rfl rfl rfl)
  · exact (val_main_v10_apply (F := Ideal) x (ix4 n ch h w)).trans (q _ rfl rfl rfl (Nat.zero_add _).symm)
  · exact (val_main_v11_apply (F := Ideal) x (ix4 n ch h w)).trans (q _ rfl rfl rfl rfl)
  · exact (val_main_v12_apply (F := Ideal) x (ix4 n ch h w)).trans (q _ rfl rfl rfl rfl)

theorem refTgt_taps (n : Fin 2) (h w : Fin 64) (i j : Fin 3) (ch : Fin 64) :
    val_main_v13 (F := Ideal) x (ix4 n (tapChan i j ch) h w) =
      padAt (tgtImg x n) ch ((h : ℕ) + (i : ℕ)) ((w : ℕ) + (j : ℕ)) := by
  rw [← refTgt_shifted]
  refine concatenate_ofFn_apply (t := S2x576x64x64) (s₁ := S2x64x64x64) 1 (refTgtShifted x)
    _ rfl 64 rfl (ix4 n (tapChan i j ch) h w) ⟨3 * (i : ℕ) + j, tap9_lt i j⟩ ?_ (ix4 n ch h w) ?_ ?_
  · show (64 * (3 * (i : ℕ) + j) + ch) / 64 = 3 * (i : ℕ) + j
    have hc := ch.isLt
    omega
  · show (ch : ℕ) = (64 * (3 * (i : ℕ) + j) + ch) % 64
    have hc := ch.isLt
    omega
  · intro k hk
    fin_cases k
    · rfl
    · exact absurd rfl hk
    · rfl
    · rfl

/-- One element of the reference's convolution. -/
theorem refTgt_conv (n : Fin 2) (o h w : Fin 64) :
    val_main_v17 (F := Ideal) x a (ix4 n o h w) = convAt (tgtImg x n) (wTgt a) o h w := by
  rw [val_main_v17_apply]
  refine (val_main_v16_apply x a _).trans ?_
  rw [sum_tapChan, ← convAt_eq_sum]
  refine Finset.sum_congr rfl fun i _ => Finset.sum_congr rfl fun j _ =>
    Finset.sum_congr rfl fun ch _ => ?_
  rw [← refTgt_taps, ← refTgt_weight]
  refine congrArg₂ (fun u v : EReal => u * v) (congrArg _ ?_) (congrArg _ ?_)
  · funext k; fin_cases k <;> rfl
  · funext k; fin_cases k <;> rfl

end Cert.ConvProof
-- ==== Proof.RefSupport.lean ====
module

public import proofs.«01_k».proof.Proof.Taps
public import proofs.«01_k».proof.Proof.Gen.ReferenceIdeal.Read

@[expose] public section

/-! The reference's convolution of the support images at one index. -/

open Idealize.ShloMosaic Idealize.ShloMosaic.TcCoe Cert.ReferenceIdeal Cert.ReferenceIdeal.Gen
open Cert.ReferenceIdeal.Read

namespace Cert.ConvProof

set_option maxRecDepth 16384

variable (x : FVec Ideal S2x16x64x64x64 .f32) (a : FVec Ideal S64x128x3x3 .f32)

theorem refSup_image (n : Fin 32) (ch h w : Fin 64) :
    val_main_v19 (F := Ideal) x (ix4 n ch h w) = x (ix5 (batchPart n) (imagePart n) ch h w) := by
  pointwise [val_main_v19]
  rfl

theorem refSup_zero (i : S_.Idx) : val_main_call1_v0 (F := Ideal) i = (0 : EReal) := by
  show (((0#32 : BitVec 32).toInt : ℝ) : EReal) = 0
  simp

theorem refSup_padded (n : Fin 32) (ch : Fin 64) (h w : Fin 66) :
    val_main_v20 (F := Ideal) x (ix4 n ch h w) = padAt (supImg x (batchPart n) (imagePart n)) ch h w := by
  pointwise [val_main_v20]
  refine Eq.trans ?_ (padAt_flat _ ch h w).symm
  simp only [refSup_image, refSup_zero]

theorem refSup_weight (o : Fin 64) (i j : Fin 3) (ch : Fin 64) :
    val_main_v32 (F := Ideal) a (ix2 o (tapChan i j ch)) = wSup a (ix4 o ch i j) :=
  weight_layout _ o i j ch

/-- The nine shifted images. -/
noncomputable def refSupShifted : Fin 9 → (S32x64x64x64.Idx → EReal) :=
  ![val_main_v21 (F := Ideal) x, val_main_v22 (F := Ideal) x, val_main_v23 (F := Ideal) x, val_main_v24 (F := Ideal) x, val_main_v25 (F := Ideal) x, val_main_v26 (F := Ideal) x, val_main_v27 (F := Ideal) x, val_main_v28 (F := Ideal) x, val_main_v29 (F := Ideal) x]

theorem refSup_shifted (n : Fin 32) (ch h w : Fin 64) (i j : Fin 3) :
    refSupShifted x ⟨3 * (i : ℕ) + j, tap9_lt i j⟩ (ix4 n ch h w) =
      padAt (supImg x (batchPart n) (imagePart n)) ch ((h : ℕ) + (i : ℕ)) ((w : ℕ) + (j : ℕ)) := by
  have q : ∀ k : S32x64x66x66.Idx, (k 0).val = n → (k 1).val = ch →
      (k 2).val = (i : ℕ) + (h : ℕ) → (k 3).val = (j : ℕ) + (w : ℕ) →
      val_main_v20 (F := Ideal) x k =
        padAt (supImg x (batchPart n) (imagePart n)) ch ((h : ℕ) + (i : ℕ)) ((w : ℕ) + (j : ℕ)) := by
    intro k e0 e1 e2 e3
    obtain rfl : k 0 = n := Fin.ext e0
    obtain rfl : k 1 = ch := Fin.ext e1
    rw [eq_ix4 k, Nat.add_comm (h : ℕ), Nat.add_comm (w : ℕ), ← e2, ← e3]
    exact refSup_padded x _ _ _ _
  fin_cases i <;> fin_cases j
  · exact (val_main_v21_apply (F := Ideal) x (ix4 n ch h w)).trans (q _ rfl rfl (Nat.zero_add _).symm (Nat.zero_add _).symm)
  · exact (val_main_v22_apply (F := Ideal) x (ix4 n ch h w)).trans (q _ rfl rfl (Nat.zero_add _).symm rfl)
  · exact (val_main_v23_apply (F := Ideal) x (ix4 n ch h w)).trans (q _ rfl rfl (Nat.zero_add _).symm rfl)
  · exact (val_main_v24_apply (F := Ideal) x (ix4 n ch h w)).trans (q _ rfl rfl rfl (Nat.zero_add _).symm)
  · exact (val_main_v25_apply (F := Ideal) x (ix4 n ch h w)).trans (q _ rfl rfl rfl rfl)
  · exact (val_main_v26_apply (F := Ideal) x (ix4 n ch h w)).trans (q _ rfl rfl rfl rfl)
  · exact (val_main_v27_apply (F := Ideal) x (ix4 n ch h w)).trans (q _ rfl rfl rfl (Nat.zero_add _).symm)
  · exact (val_main_v28_apply (F := Ideal) x (ix4 n ch h w)).trans (q _ rfl rfl rfl rfl)
  · exact (val_main_v29_apply (F := Ideal) x (ix4 n ch h w)).trans (q _ rfl rfl rfl rfl)

theorem refSup_taps (n : Fin 32) (h w : Fin 64) (i j : Fin 3) (ch : Fin 64) :
    val_main_v30 (F := Ideal) x (ix4 n (tapChan i j ch) h w) =
      padAt (supImg x (batchPart n) (imagePart n)) ch ((h : ℕ) + (i : ℕ)) ((w : ℕ) + (j : ℕ)) := by
  rw [← refSup_shifted]
  refine concatenate_ofFn_apply (t := S32x576x64x64) (s₁ := S32x64x64x64) 1 (refSupShifted x)
    _ rfl 64 rfl (ix4 n (tapChan i j ch) h w) ⟨3 * (i : ℕ) + j, tap9_lt i j⟩ ?_ (ix4 n ch h w) ?_ ?_
  · show (64 * (3 * (i : ℕ) + j) + ch) / 64 = 3 * (i : ℕ) + j
    have hc := ch.isLt
    omega
  · show (ch : ℕ) = (64 * (3 * (i : ℕ) + j) + ch) % 64
    have hc := ch.isLt
    omega
  · intro k hk
    fin_cases k
    · rfl
    · exact absurd rfl hk
    · rfl
    · rfl

/-- One element of the reference's convolution. -/
theorem refSup_conv (n : Fin 32) (o h w : Fin 64) :
    val_main_v34 (F := Ideal) x a (ix4 n o h w) = convAt (supImg x (batchPart n) (imagePart n)) (wSup a) o h w := by
  rw [val_main_v34_apply]
  refine (val_main_v33_apply x a _).trans ?_
  rw [sum_tapChan, ← convAt_eq_sum]
  refine Finset.sum_congr rfl fun i _ => Finset.sum_congr rfl fun j _ =>
    Finset.sum_congr rfl fun ch _ => ?_
  rw [← refSup_taps, ← refSup_weight]
  refine congrArg₂ (fun u v : EReal => u * v) (congrArg _ ?_) (congrArg _ ?_)
  · funext k; fin_cases k <;> rfl
  · funext k; fin_cases k <;> rfl

end Cert.ConvProof
-- ==== Proof.RefValue.lean ====
module

public import proofs.«01_k».proof.Proof.RefTarget
public import proofs.«01_k».proof.Proof.RefSupport

@[expose] public section

/-! The two results of the reference at one index. -/

open Idealize.ShloMosaic Idealize.ShloMosaic.TcCoe Cert.ReferenceIdeal Cert.ReferenceIdeal.Gen
open Cert.ReferenceIdeal.Read

namespace Cert.ConvProof

set_option maxRecDepth 16384

variable (x0 : FVec Ideal S2x1x64x64x64 .f32) (x1 : FVec Ideal S2x16x64x64x64 .f32)
  (x2 : FVec Ideal S64x128x3x3 .f32) (x3 : FVec Ideal S64 .f32)

theorem ref_target (b : Fin 2) (o h w : Fin 64) :
    val_main_v18 (F := Ideal) x0 x2 (ix5 b 0 o h w) =
      val_main_v17 (F := Ideal) x0 x2 (ix4 b o h w) := by
  pointwise [val_main_v18]

theorem imageNo_lt (b : Fin 2) (s : Fin 16) : (b : ℕ) * 16 + s < 32 := by omega

theorem ref_support (b : Fin 2) (s : Fin 16) (o h w : Fin 64) :
    val_main_v35 (F := Ideal) x1 x2 (ix5 b s o h w) =
      val_main_v34 (F := Ideal) x1 x2 (ix4 ⟨(b : ℕ) * 16 + s, imageNo_lt b s⟩ o h w) := by
  pointwise [val_main_v35]

theorem ref_sum (b : Fin 2) (s : Fin 16) (o h w : Fin 64) :
    val_main_v42 (F := Ideal) x0 x1 x2 x3 (ix6 b 0 s o h w) =
      (val_main_v18 (F := Ideal) x0 x2 (ix5 b 0 o h w) +
        val_main_v35 (F := Ideal) x1 x2 (ix5 b s o h w)) + x3 (ix1 o) := by
  pointwise [val_main_v42, val_main_v39, val_main_v38, val_main_v37, val_main_v36, val_main_v41,
    val_main_v40]

theorem ref_inter_eq (b : Fin 2) (s : Fin 16) (o h w : Fin 64) :
    val_main_v43 (F := Ideal) x0 x1 x2 x3 (ix5 b s o h w) =
      val_main_v42 (F := Ideal) x0 x1 x2 x3 (ix6 b 0 s o h w) := by
  pointwise [val_main_v43]

theorem ref_inter (b : Fin 2) (s : Fin 16) (o h w : Fin 64) :
    val_main_v43 (F := Ideal) x0 x1 x2 x3 (ix5 b s o h w) =
      convAt (supImg x1 b s) (wSup x2) o h w +
        (convAt (tgtImg x0 b) (wTgt x2) o h w + x3 (ix1 o)) := by
  have hb : batchPart ⟨(b : ℕ) * 16 + s, imageNo_lt b s⟩ = b :=
    Fin.ext (by show ((b : ℕ) * 16 + s) / 16 = b; omega)
  have hs : imagePart ⟨(b : ℕ) * 16 + s, imageNo_lt b s⟩ = s :=
    Fin.ext (by show ((b : ℕ) * 16 + s) % 16 = s; omega)
  rw [ref_inter_eq, ref_sum, ref_target, ref_support, refTgt_conv, refSup_conv, hb, hs]
  rw [← add_assoc, add_comm (convAt (supImg x1 b s) _ _ _ _)]

/-- Every interaction of the reference. -/
theorem ref_result1 (b : Fin 2) (s : Fin 16) (o : Fin 64) (p : Fin 4096) :
    val_main_v49 (F := Ideal) x0 x1 x2 x3 (ix4 b s o p) = interAt x0 x1 x2 x3 b s o p := by
  have e : val_main_v49 (F := Ideal) x0 x1 x2 x3 (ix4 b s o p) =
      val_main_v43 (F := Ideal) x0 x1 x2 x3
        (ix5 b s o ⟨(p : ℕ) / 64, lane_row p⟩ ⟨(p : ℕ) % 64, lane_col p⟩) := by
    pointwise [val_main_v49]
  rw [e, ref_inter]
  rfl

theorem ref_total (b : Fin 2) (o h w : Fin 64) :
    val_main_v44 (F := Ideal) x0 x1 x2 x3 (ix4 b o h w) =
      ∑ s : Fin 16, val_main_v43 (F := Ideal) x0 x1 x2 x3 (ix5 b s o h w) := by
  refine (val_main_v44_apply x0 x1 x2 x3 _).trans ?_
  have z : val_main_cst (F := Ideal) (Shape.Idx.first h_S_) = (0 : EReal) := by
    pointwise [val_main_cst]
  rw [z, zero_add]
  refine Finset.sum_congr rfl fun s _ => congrArg _ ?_
  exact eq_ix5 _

/-- The mean of the reference. -/
theorem ref_result0 (b : Fin 2) (o : Fin 64) (p : Fin 4096) :
    val_main_v48 (F := Ideal) x0 x1 x2 x3 (ix4 b 0 o p) =
      (∑ s : Fin 16, interAt x0 x1 x2 x3 b s o p) * ((1 / 16 : ℝ) : EReal) := by
  have e : val_main_v48 (F := Ideal) x0 x1 x2 x3 (ix4 b 0 o p) =
      Ideal.div (val_main_v44 (F := Ideal) x0 x1 x2 x3
        (ix4 b o ⟨(p : ℕ) / 64, lane_row p⟩ ⟨(p : ℕ) % 64, lane_col p⟩))
        (Ideal.ofBits .f32 0x41800000#32) := by
    pointwise [val_main_v48, val_main_v47, val_main_v46, val_main_v45, val_main_cst_1]
  rw [e, sixteen, Ideal.div_coe (by norm_num : (16 : ℝ) ≠ 0), ref_total]
  simp only [ref_inter]
  rfl

end Cert.ConvProof
-- ==== Proof.Equation.lean ====
module

public import proofs.«01_k».proof.Proof.RefValue

@[expose] public section

/-! The arrays the kernel leaves are the reference's results on the same arguments. -/

open Idealize.ShloMosaic Idealize.ShloMosaic.TcCoe Idealize.SL.Sem Cert.KernelIdeal Cert.KernelIdeal.Gen

namespace Cert.ConvProof

variable (m : (ℓ : Loc nD τ sig) → Buf (Elt Ideal) ℓ)
  (m' : (ℓ : Loc Cert.ReferenceIdeal.nD Cert.ReferenceIdeal.τ Cert.ReferenceIdeal.sig) →
    Buf (Elt Ideal) ℓ) (c : Dev nD)

/-- The two programs start from the same four arguments. -/
abbrev SameArgs : Prop :=
  m' ((c.tc : Thread Cert.ReferenceIdeal.nD Cert.ReferenceIdeal.τ).loc
      Cert.ReferenceIdeal.main_arg0) = m ((c.tc : Thread nD τ).loc main_arg0) ∧
    m' ((c.tc : Thread Cert.ReferenceIdeal.nD Cert.ReferenceIdeal.τ).loc
      Cert.ReferenceIdeal.main_arg1) = m ((c.tc : Thread nD τ).loc main_arg1) ∧
    m' ((c.tc : Thread Cert.ReferenceIdeal.nD Cert.ReferenceIdeal.τ).loc
      Cert.ReferenceIdeal.main_arg2) = m ((c.tc : Thread nD τ).loc main_arg2) ∧
    m' ((c.tc : Thread Cert.ReferenceIdeal.nD Cert.ReferenceIdeal.τ).loc
      Cert.ReferenceIdeal.main_arg3) = m ((c.tc : Thread nD τ).loc main_arg3)

/-- The mean over the support images. -/
theorem mean_eq (h : SameArgs m m' c) :
    (Cert.ReferenceIdeal.Value.res_main_v48 m' c : S2x1x64x4096.Idx → EReal) =
      Cert.KernelIdeal.Value.G5 m c := by
  obtain ⟨h0, h1, h2, h3⟩ := h
  rw [Cert.ReferenceIdeal.Read.val_main_v48_eq, h0, h1, h2, h3]
  funext i
  rw [eq_ix4 i]
  have e : i 1 = (0 : Fin 1) := Subsingleton.elim (α := Fin 1) _ _
  rw [e]
  exact (ref_result0 _ _ _ _ _ _ _).trans (G5_apply m c _ _ _).symm

/-- The interactions. -/
theorem interactions_eq (h : SameArgs m m' c) :
    (Cert.ReferenceIdeal.Value.res_main_v49 m' c : S2x16x64x4096.Idx → EReal) =
      Cert.KernelIdeal.Value.G6 m c := by
  obtain ⟨h0, h1, h2, h3⟩ := h
  rw [Cert.ReferenceIdeal.Read.val_main_v49_eq, h0, h1, h2, h3]
  funext i
  rw [eq_ix4 i]
  exact (ref_result1 _ _ _ _ _ _ _ _).trans (G6_apply m c _ _ _ _).symm

end Cert.ConvProof
-- ==== Proof.lean ====
/- The certificate of the fused convolution kernel: the three frames, the idealization, and the equality of the
   kernel's two result arrays with the reference's over the extended reals. The values are proved in the modules
   under Proof/: one block (Conv, Step), the arrays (Blocks, Points, KernelValue), the reference (Taps, RefTarget,
   RefSupport, RefValue), the equation (Equation). -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel terminates, keeps its arguments, and leaves every counter at zero. -/
theorem kernel_quiescent : Cert.quiescent_Kernel (hKernel := Cert.Kernel.Gen.facts) :=
  fun m ρ _ => Cert.Kernel.Gen.frame m ρ

/-- So does the kernel over the extended reals. -/
theorem idealKernel_quiescent :
    Cert.quiescent_KernelIdeal (hKernelIdeal := Cert.KernelIdeal.Gen.facts) :=
  fun m ρ _ => Cert.KernelIdeal.Gen.frame m ρ

/-- So does the reference, which has no counters. -/
theorem reference_quiescent :
    Cert.quiescent_ReferenceIdeal (hReferenceIdeal := Cert.ReferenceIdeal.Gen.facts) := by
  intro m ρ _
  refine (θ_run Cert.ReferenceIdeal.defs _ _).mono (fun r h => ⟨fun c => ?_, ?_⟩)
    (Cert.ReferenceIdeal.Value.run m ρ)
  · exact (h c).2.2
  · exact sem_eq_zero_of_no_sems (by decide) r.2

/-- The kernel and the reference end with the same two arrays. -/
theorem values_agree : Cert.algebraic_KernelIdeal_ReferenceIdeal
    (hKernelIdeal := Cert.KernelIdeal.Gen.facts)
    (hReferenceIdeal := Cert.ReferenceIdeal.Gen.facts) := by
  intro m g m' g' _ hargs
  refine ⟨fun c => Cert.KernelIdeal.Value.G5 m c, fun c => Cert.KernelIdeal.Value.G6 m c,
    Cert.KernelIdeal.Value.run m g, ?_⟩
  refine (θ_run Cert.ReferenceIdeal.defs _ _).mono (fun _ h c => ?_)
    (Cert.ReferenceIdeal.Value.run m' g')
  obtain ⟨r0, r1, rest⟩ := h c
  exact ⟨r0.trans (Cert.ConvProof.mean_eq m m' c (hargs c)),
    r1.trans (Cert.ConvProof.interactions_eq m m' c (hargs c)), rest⟩

theorem claim : Cert.Claim :=
  ⟨Cert.Kernel.Gen.facts, Cert.KernelIdeal.Gen.facts, Cert.ReferenceIdeal.Gen.facts,
    kernel_quiescent, idealKernel_quiescent, reference_quiescent, trivial, values_agree⟩

end Cert.Proof

end
